-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "log_two" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4x384x27648 : Shape := ⟨3, ![4, 384, 27648]⟩
abbrev S27648x5120 : Shape := ⟨2, ![27648, 5120]⟩
abbrev S5120 : Shape := ⟨1, ![5120]⟩
abbrev S1536x27648 : Shape := ⟨2, ![1536, 27648]⟩
abbrev S1536x1 : Shape := ⟨2, ![1536, 1]⟩
abbrev S64x27648 : Shape := ⟨2, ![64, 27648]⟩
abbrev S64x1 : Shape := ⟨2, ![64, 1]⟩
abbrev S64 : Shape := ⟨1, ![64]⟩
abbrev S64x256 : Shape := ⟨2, ![64, 256]⟩
abbrev S1x5120 : Shape := ⟨2, ![1, 5120]⟩
abbrev S1536x5120 : Shape := ⟨2, ![1536, 5120]⟩
abbrev S1536x2304 : Shape := ⟨2, ![1536, 2304]⟩
abbrev S2304x1024 : Shape := ⟨2, ![2304, 1024]⟩
abbrev S1x1024 : Shape := ⟨2, ![1, 1024]⟩
abbrev S1536x1024 : Shape := ⟨2, ![1536, 1024]⟩
abbrev S4x384x5120 : Shape := ⟨3, ![4, 384, 5120]⟩
abbrev S4x384x1 : Shape := ⟨3, ![4, 384, 1]⟩

abbrev nBuf : Space → Nat
  | .hbm => 13
  | .vmem => 18
  | .smem => 0
  | _ => 0

abbrev bufTy : (tb : Table) → Fin (tcTables nBuf tb) → BufTy
  | .hbm, ⟨0, _⟩ => ⟨S4x384x27648, .bf16⟩
  | .hbm, ⟨1, _⟩ => ⟨S27648x5120, .fp8e4m3⟩
  | .hbm, ⟨2, _⟩ => ⟨S5120, .f32⟩
  | .hbm, ⟨3, _⟩ => ⟨S5120, .f32⟩
  | .hbm, ⟨4, _⟩ => ⟨S1536x27648, .bf16⟩
  | .hbm, ⟨5, _⟩ => ⟨S1536x27648, .fp8e4m3⟩
  | .hbm, ⟨6, _⟩ => ⟨S1536x1, .f32⟩
  | .hbm, ⟨7, _⟩ => ⟨S1x5120, .f32⟩
  | .hbm, ⟨8, _⟩ => ⟨S1x5120, .f32⟩
  | .hbm, ⟨9, _⟩ => ⟨S1536x5120, .bf16⟩
  | .hbm, ⟨10, _⟩ => ⟨S4x384x5120, .bf16⟩
  | .hbm, ⟨11, _⟩ => ⟨S4x384x27648, .fp8e4m3⟩
  | .hbm, ⟨12, _⟩ => ⟨S4x384x1, .f32⟩
  | .local _ .vmem, ⟨0, _⟩ => ⟨S64x27648, .bf16⟩
  | .local _ .vmem, ⟨1, _⟩ => ⟨S64x27648, .bf16⟩
  | .local _ .vmem, ⟨2, _⟩ => ⟨S64x27648, .fp8e4m3⟩
  | .local _ .vmem, ⟨3, _⟩ => ⟨S64x27648, .fp8e4m3⟩
  | .local _ .vmem, ⟨4, _⟩ => ⟨S64x1, .f32⟩
  | .local _ .vmem, ⟨5, _⟩ => ⟨S64x1, .f32⟩
  | .local _ .vmem, ⟨6, _⟩ => ⟨S1536x2304, .fp8e4m3⟩
  | .local _ .vmem, ⟨7, _⟩ => ⟨S1536x2304, .fp8e4m3⟩
  | .local _ .vmem, ⟨8, _⟩ => ⟨S2304x1024, .fp8e4m3⟩
  | .local _ .vmem, ⟨9, _⟩ => ⟨S2304x1024, .fp8e4m3⟩
  | .local _ .vmem, ⟨10, _⟩ => ⟨S1536x1, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1536x1024, .bf16⟩
  | .local _ .vmem, ⟨16, _⟩ => ⟨S1536x1024, .bf16⟩
  | .local _ .vmem, ⟨17, _⟩ => ⟨S1536x1024, .f32⟩
  | _, _ => ⟨S4x384x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x27648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x27648 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![5, 12], ![false, false]⟩

def k1_cond3 (i : grid1.Coords) : BitVec 1 :=
  let arg1 : BitVec 32 := BitVec.ofNat 32 (i 1).val
  let c11_i32 : BitVec 32 := 11#32
  let v10 : BitVec 1 := Scalar.cmpi .eq arg1 c11_i32
  let v11 : BitVec 32 := Scalar.extui v10
  let c0_i32_6 : BitVec 32 := 0#32
  let v12 : BitVec 1 := Scalar.cmpi .ne v11 c0_i32_6
  v12

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1536x2304 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2304x1024 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1536x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1536x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
variable {F : FTy → Type} [FloatOps F] [Named F]
def κ : String → Option EReal := fun
  | "log_two" => some ((Real.log 2 : ℝ) : EReal)
  | _ => none
-- ==== Reference.lean ====
abbrev S4x384x27648 : Shape := ⟨3, ![4, 384, 27648]⟩
abbrev S27648x5120 : Shape := ⟨2, ![27648, 5120]⟩
abbrev S5120 : Shape := ⟨1, ![5120]⟩
abbrev S4x384x5120 : Shape := ⟨3, ![4, 384, 5120]⟩
abbrev S4x384x1 : Shape := ⟨3, ![4, 384, 1]⟩
abbrev S4x384 : Shape := ⟨2, ![4, 384]⟩
abbrev S1x1x5120 : Shape := ⟨3, ![1, 1, 5120]⟩

abbrev nBuf : Space → Nat
  | .hbm => 7
  | .vmem => 7
  | .smem => 0
  | _ => 0

abbrev bufTy : (tb : Table) → Fin (tcTables nBuf tb) → BufTy
  | .hbm, ⟨0, _⟩ => ⟨S4x384x27648, .bf16⟩
  | .hbm, ⟨1, _⟩ => ⟨S27648x5120, .fp8e4m3⟩
  | .hbm, ⟨2, _⟩ => ⟨S5120, .f32⟩
  | .hbm, ⟨3, _⟩ => ⟨S5120, .f32⟩
  | .hbm, ⟨4, _⟩ => ⟨S4x384x5120, .bf16⟩
  | .hbm, ⟨5, _⟩ => ⟨S4x384x27648, .fp8e4m3⟩
  | .hbm, ⟨6, _⟩ => ⟨S4x384x1, .f32⟩
  | .local _ .vmem, ⟨0, _⟩ => ⟨S4x384x27648, .bf16⟩
  | .local _ .vmem, ⟨1, _⟩ => ⟨S27648x5120, .fp8e4m3⟩
  | .local _ .vmem, ⟨2, _⟩ => ⟨S5120, .f32⟩
  | .local _ .vmem, ⟨3, _⟩ => ⟨S5120, .f32⟩
  | .local _ .vmem, ⟨4, _⟩ => ⟨S4x384x5120, .bf16⟩
  | .local _ .vmem, ⟨5, _⟩ => ⟨S4x384x27648, .fp8e4m3⟩
  | .local _ .vmem, ⟨6, _⟩ => ⟨S4x384x1, .f32⟩
  | _, _ => ⟨S4x384x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x384x27648 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27648x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384x27648 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelQuant.lean ====
/- The quantising region of the kernel, at any float values: from any contents of the core's buffers, each grid point reads
   one block of 64 rows of the activations and leaves the block of codes and the block of scales the body's payloads compute
   from it; the region's proof data and its body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Tactic

@[expose] public section

set_option maxRecDepth 16384

noncomputable section

namespace Cert.Kernel.Quant

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered.
variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-! ## The body -/

abbrev r0 : Rect S64x27648 := Rect.unit (s := S64x27648) ![0, 0] S64x27648.size inb_S64x27648_S64x27648_0_0
abbrev r1 : Rect S64x1 := Rect.unit (s := S64x1) ![0, 0] S64x1.size inb_S64x1_S64x1_0_0

/-- What the codes' block holds after the body on the block `x` of activations. -/
def codes (x : Vec F S64x27648 .bf16) : Vec F S64x27648 .fp8e4m3 :=
  View.canon [⟨r0, k0_pay2 (k0_pay3 (View.ld x r0)) (k0_pay4 (View.ld x r0))⟩]

/-- What the scales' block holds after the body on the block `x` of activations. -/
def scales (x : Vec F S64x27648 .bf16) : Vec F S64x1 .f32 :=
  View.canon [⟨r1, k0_pay1 (F := F) (k0_pay5 (View.ld x r0)) (k0_pay6 (View.ld x r0)) (k0_pay7 (View.ld x r0))⟩]

/-- The one store of the codes covers their block. -/
theorem cover_codes (p : Vec F S64x27648 .fp8e4m3) (y : S64x27648.Idx) :
    ∃ pc ∈ ([⟨r0, p⟩] : List (View.Piece (Elt F) S64x27648 .fp8e4m3)), y ∈ pc.1.set :=
  View.cover_of_tiled [⟨r0, p⟩] S64x27648.size (by rfl) y

/-- The one store of the scales covers their block. -/
theorem cover_scales (p : Vec F S64x1 .f32) (y : S64x1.Idx) :
    ∃ pc ∈ ([⟨r1, p⟩] : List (View.Piece (Elt F) S64x1 .f32)), y ∈ pc.1.set :=
  View.cover_of_tiled [⟨r1, p⟩] S64x1.size (by rfl) y

set_option maxHeartbeats 1000000 in
/-- The body on whole memrefs, the activations' at `x` and the outputs' at anything, leaves the activations as they were, the
    codes at `codes x` and the scales at `scales x`. -/
theorem sound_kernel (c : Dev nD) (E : Set ℕ) (i : grid0.Coords) (arg1 : Memref sig .tc .vmem S64x27648 .bf16) (harg1 : arg1.IsWhole)
    (arg2 : Memref sig .tc .vmem S64x27648 .fp8e4m3) (harg2 : arg2.IsWhole) (arg3 : Memref sig .tc .vmem S64x1 .f32) (harg3 : arg3.IsWhole)
    (x : Vec F S64x27648 .bf16) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (codes x) ∗ owns (c : Thread nD τ) arg3 fullShare (scales x)) -∗ K ⟨⟩))
      ⊢ wp frame (wpE (defs₀ (F := F)) Variants.none c none) E (cc0_quantise i arg1 harg1 arg2 harg2 arg3 harg3) K := by
  simp only [cc0_quantise_eq_skeleton]; unfold cc0_quantise_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover_codes _)
  iexists _; isplitr
  swap; · iexact H2
  ipureintro
  exact View.read_writes_eq_canon _ _ _ (cover_scales _)

/-! ## The proof data and the body obligation -/

/-- The region's proof data: the arrays as the region finds them; after the body each window's buffer at the activations' block,
    its codes, its scales; the scoped rest and the generator register carried untouched; nothing owed; full shares. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => codes (iblk W c 0 t)
    | ⟨2, _⟩ => scales (iblk W c 0 t)
  Φ _ := Pipeline.ΦA spec0 c
  q _ := fullShare
  owed _ := 0

/-- The proof data's arrays are the contents the region finds. -/
theorem A_eq (c : Dev nD) (w : Fin cfg0.W) : (dat W c).A w = W c (Proc.devRef .tc (Pipeline.arrRef spec0 w)) := by
  dsimp only [dat]

/-- What the body leaves in each window's buffer. -/
theorem after_0 (c : Dev nD) (t : Fin cfg0.N) : (dat W c).after 0 t = iblk W c 0 t := by dsimp only [dat]
/-- The codes' buffer is left holding the codes of the block. -/
theorem after_1 (c : Dev nD) (t : Fin cfg0.N) : (dat W c).after 1 t = codes (iblk W c 0 t) := by dsimp only [dat]
/-- The scales' buffer is left holding the scales of the block. -/
theorem after_2 (c : Dev nD) (t : Fin cfg0.N) : (dat W c).after 2 t = scales (iblk W c 0 t) := by dsimp only [dat]

/-- The activations' buffer holds its block at every point. -/
theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t))

/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0]
  rw [show (dat W c).Φ t.succ = (dat W c).Φ t.castSucc from rfl,
    show (dat W c).owesAt () t.succ = (dat W c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk W c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation of the quantising region. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.Kernel.Quant

end
-- ==== Proof.KernelMat.lean ====
/- The matrix-product region of the kernel, at any float values: from any contents of the core's buffers, what the body does at
   a grid point in each of its three cases (the reduction's first block, a middle block, its last block), what the accumulator
   holds after each point, the region's proof data and its body obligation. -/
module

public import proofs.«01_k».proof.Proof.KernelQuant
public import Idealize.ShloMosaic.Lib.Ring
public import Idealize.ShloMosaic.Lib.WordCmp
public import Idealize.ShloMosaic.Lib.Pipeline.Value

@[expose] public section

set_option maxRecDepth 16384

noncomputable section

namespace Cert.Kernel.Mat

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The reduction's first block: `k == 0`. -/
abbrev cond0 (i : grid1.Coords) : Prop := (Scalar.cmpi .ne (Scalar.extui (Scalar.cmpi .eq (BitVec.ofNat 32 (i 1).val) 0#32)) 0#32) = 1#1
/-- Any later block: `k > 0`. -/
abbrev cond1 (i : grid1.Coords) : Prop := (Scalar.cmpi .ne (Scalar.extui (Scalar.cmpi .sgt (BitVec.ofNat 32 (i 1).val) 0#32)) 0#32) = 1#1
/-- The last block: `k == 11`. -/
abbrev cond2 (i : grid1.Coords) : Prop := k1_cond3 i = 1#1

/-- The first block is met at the points ≡ 0 (mod 12). -/
theorem hcond0 : ∀ t : Fin cfg1.N, cond0 (grid1.coords t) ↔ t.val % 12 = 0 :=
  (by decide +kernel : ∀ t : Fin grid1.N, cond0 (grid1.coords t) ↔ t.val % 12 = 0)
/-- A later block is met at the other points. -/
theorem hcond1 : ∀ t : Fin cfg1.N, cond1 (grid1.coords t) ↔ 1 ≤ t.val % 12 :=
  (by decide +kernel : ∀ t : Fin grid1.N, cond1 (grid1.coords t) ↔ 1 ≤ t.val % 12)
/-- The last block is met at the points ≡ 11 (mod 12). -/
theorem hcond2 : ∀ t : Fin cfg1.N, cond2 (grid1.coords t) ↔ t.val % 12 = 11 :=
  (by decide +kernel : ∀ t : Fin grid1.N, cond2 (grid1.coords t) ↔ t.val % 12 = 11)

/-- The output is idle exactly where the last block is not met. -/
theorem idle_of (t : Fin cfg1.N) (h : t.val % 12 ≠ 11) : cfg1.idle 5 (grid1.coords t) = true :=
  (by decide +kernel : ∀ t : Fin grid1.N, t.val % 12 ≠ 11 → cfg1.idle 5 (grid1.coords t) = true) t h
/-- At the last summed block of a column block the output window is live. -/
theorem live_of (t : Fin cfg1.N) (h : t.val % 12 = 11) : cfg1.idle 5 (grid1.coords t) = false :=
  (by decide +kernel : ∀ t : Fin grid1.N, t.val % 12 = 11 → cfg1.idle 5 (grid1.coords t) = false) t h
/-- An output block is written back only where the last block is met. -/
theorem noFlush_of (t : Fin cfg1.N) (h : t.val % 12 ≠ 11) : (cfg1.win 5).flush t = false := by
  have := (flush1_5 t).not.mpr h
  simpa using this

/-! ## The body, case by case -/

section Whole

variable {Val : EltTy → Type} [∀ e, Nonempty (Val e)] {sg : RefSig} {κ : Kind} {sp : Space} {S : Shape} {e : EltTy}

/-- A load of a whole view reads its contents. -/
theorem readAt_whole (v : View sg κ sp S e) (f : v.ty.Contents Val) {off : Fin S.rank → Nat} (h : off = fun _ => 0)
    (inb : ∀ a, off a + S.size a ≤ S.size a) : v.readAt Val (Rect.unit off S.size inb).toLoadRect f = v.read Val f :=
  (show _ = View.ld (v.read Val f) (Rect.unit off S.size inb) from rfl).trans (View.ld_unit_zero h inb _)

/-- What one store of a whole view leaves reads as its payload. -/
theorem read_store_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-- The offsets of the body's accesses are zero. -/
theorem off_zero : (![0, 0] : Fin 2 → Nat) = fun _ => 0 := by decide

end Whole

section Run

variable (c : Dev nD) (i : grid1.Coords)
  (arg2 : Memref sig .tc .vmem S1536x2304 .fp8e4m3) (harg2 : arg2.IsWhole) (arg3 : Memref sig .tc .vmem S2304x1024 .fp8e4m3) (harg3 : arg3.IsWhole)
  (arg4 : Memref sig .tc .vmem S1536x1 .f32) (harg4 : arg4.IsWhole) (arg5 : Memref sig .tc .vmem S1x1024 .f32) (harg5 : arg5.IsWhole)
  (arg6 : Memref sig .tc .vmem S1x1024 .f32) (harg6 : arg6.IsWhole) (arg7 : Memref sig .tc .vmem S1536x1024 .bf16) (harg7 : arg7.IsWhole)
  (arg8 : Memref sig .tc .vmem S1536x1024 .f32) (harg8 : arg8.IsWhole)
  (x0 : Vec F S1536x2304 .fp8e4m3) (x1 : Vec F S2304x1024 .fp8e4m3) (x2 : Vec F S1536x1 .f32) (x3 : Vec F S1x1024 .f32)
  (x4 : Vec F S1x1024 .f32)

/-- The five inputs' buffers at their contents. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

set_option maxHeartbeats 1000000 in
/-- At the first block: the accumulator, whatever it held, ends at the block's product; the output's buffer is not touched. -/
theorem run_first (h0 : cond0 i) (h1 : ¬cond1 i) (h2 : ¬cond2 i) (d : Vec F S1536x1024 .bf16) (E : Set ℕ) (K : PUnit → sProp 𝕄) :
    iprop(ins c arg2 arg3 arg4 arg5 arg6 x0 x1 x2 x3 x4 ∗ owns (c : Thread nD τ) arg7 fullShare d ∗ (∃ a, owns (c : Thread nD τ) arg8 fullShare a)
        ∗ (iprop(ins c arg2 arg3 arg4 arg5 arg6 x0 x1 x2 x3 x4 ∗ owns (c : Thread nD τ) arg7 fullShare d
            ∗ owns (c : Thread nD τ) arg8 fullShare (k1_pay2 x0 x1)) -∗ K ⟨⟩))
      ⊢ wp frame (wpE (defs₀ (F := F)) Variants.none c none) E
          (cc1_fp8_matmul i arg2 harg2 arg3 harg3 arg4 harg4 arg5 harg5 arg6 harg6 arg7 harg7 arg8 harg8) K := by
  simp only [cc1_fp8_matmul_eq_skeleton]; unfold cc1_fp8_matmul_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%a, %fs, -, HS⟩, Hk⟩
  subst hf0 hf1 hf2 hf3 hf4 hf5
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists f5; isplitr; · ipureintro; rfl
    iexact H5
  iexists _; isplitr
  swap; · iexact HS
  ipureintro
  rw [read_store_whole _ _ off_zero, readAt_whole _ _ off_zero, readAt_whole _ _ off_zero]

set_option maxHeartbeats 1000000 in
/-- At a middle block: the accumulator at `a` ends at `a` plus the block's product; the output's buffer is not touched. -/
theorem run_middle (h0 : ¬cond0 i) (h1 : cond1 i) (h2 : ¬cond2 i) (a : Vec F S1536x1024 .f32) (d : Vec F S1536x1024 .bf16) (E : Set ℕ) (K : PUnit → sProp 𝕄) :
    iprop(ins c arg2 arg3 arg4 arg5 arg6 x0 x1 x2 x3 x4 ∗ owns (c : Thread nD τ) arg7 fullShare d ∗ owns (c : Thread nD τ) arg8 fullShare a
        ∗ (iprop(ins c arg2 arg3 arg4 arg5 arg6 x0 x1 x2 x3 x4 ∗ owns (c : Thread nD τ) arg7 fullShare d
            ∗ owns (c : Thread nD τ) arg8 fullShare (k1_pay3 x0 x1 a)) -∗ K ⟨⟩))
      ⊢ wp frame (wpE (defs₀ (F := F)) Variants.none c none) E
          (cc1_fp8_matmul i arg2 harg2 arg3 harg3 arg4 harg4 arg5 harg5 arg6 harg6 arg7 harg7 arg8 harg8) K := by
  simp only [cc1_fp8_matmul_eq_skeleton]; unfold cc1_fp8_matmul_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%fs, %hfs, HS⟩, Hk⟩
  subst hf0 hf1 hf2 hf3 hf4 hf5 hfs
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists f5; isplitr; · ipureintro; rfl
    iexact H5
  iexists _; isplitr
  swap; · iexact HS
  ipureintro
  rw [read_store_whole _ _ off_zero, readAt_whole _ _ off_zero, readAt_whole _ _ off_zero, readAt_whole _ _ off_zero]

set_option maxHeartbeats 1000000 in
/-- At the last block: the accumulator at `a` ends at `a` plus the block's product, and the output's buffer, whatever it held, at
    that sum scaled by row and by column, the bias added, rounded to the output's type. -/
theorem run_last (h0 : ¬cond0 i) (h1 : cond1 i) (h2 : cond2 i) (a : Vec F S1536x1024 .f32) (E : Set ℕ) (K : PUnit → sProp 𝕄) :
    iprop(ins c arg2 arg3 arg4 arg5 arg6 x0 x1 x2 x3 x4 ∗ (∃ d, owns (c : Thread nD τ) arg7 fullShare d) ∗ owns (c : Thread nD τ) arg8 fullShare a
        ∗ (iprop(ins c arg2 arg3 arg4 arg5 arg6 x0 x1 x2 x3 x4 ∗ owns (c : Thread nD τ) arg7 fullShare (k1_pay4 (k1_pay3 x0 x1 a) x2 x3 x4)
            ∗ owns (c : Thread nD τ) arg8 fullShare (k1_pay3 x0 x1 a)) -∗ K ⟨⟩))
      ⊢ wp frame (wpE (defs₀ (F := F)) Variants.none c none) E
          (cc1_fp8_matmul i arg2 harg2 arg3 harg3 arg4 harg4 arg5 harg5 arg6 harg6 arg7 harg7 arg8 harg8) K := by
  simp only [cc1_fp8_matmul_eq_skeleton]; unfold cc1_fp8_matmul_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%d, %f5, -, H5⟩, ⟨%fs, %hfs, HS⟩, Hk⟩
  subst hf0 hf1 hf2 hf3 hf4 hfs
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists _; isplitr
    swap; · iexact H5
    ipureintro
    unfold run_last.sl.v13 run_last.sl.HS_1
    rw [read_store_whole _ _ off_zero, View.readCov_unit_zero _ off_zero, readAt_whole _ _ off_zero, readAt_whole _ _ off_zero, readAt_whole _ _ off_zero,
      readAt_whole _ _ off_zero, readAt_whole _ _ off_zero, readAt_whole _ _ off_zero]
  iexists _; isplitr
  swap; · iexact HS
  ipureintro
  unfold run_last.sl.HS_1
  rw [read_store_whole _ _ off_zero, readAt_whole _ _ off_zero, readAt_whole _ _ off_zero, readAt_whole _ _ off_zero]

end Run

/-! ## The proof data -/

-- The buffers' contents when the region is entered.
variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The accumulator after the point at position `n`: the block's product at the reduction's first block, the sum with what the
    point before left elsewhere. -/
def acc (c : Dev nD) : (n : ℕ) → n < cfg1.N → Vec F S1536x1024 .f32
  | 0, h => k1_pay2 (iblk W c 0 ⟨0, h⟩) (iblk W c 1 ⟨0, h⟩)
  | n + 1, h =>
    if (n + 1) % 12 = 0 then k1_pay2 (iblk W c 0 ⟨n + 1, h⟩) (iblk W c 1 ⟨n + 1, h⟩)
    else k1_pay3 (iblk W c 0 ⟨n + 1, h⟩) (iblk W c 1 ⟨n + 1, h⟩) (acc c n (Nat.lt_of_succ_lt h))

/-- At a first block. -/
theorem acc_first (c : Dev nD) (t : Fin cfg1.N) (h : t.val % 12 = 0) :
    acc W c t.val t.isLt = k1_pay2 (iblk W c 0 t) (iblk W c 1 t) := by
  obtain ⟨n, hn⟩ := t
  cases n with
  | zero => rfl
  | succ n => exact if_pos h

/-- At a later block. -/
theorem acc_next (c : Dev nD) (t : Fin cfg1.N) (h : t.val % 12 ≠ 0) :
    acc W c t.val t.isLt = k1_pay3 (iblk W c 0 t) (iblk W c 1 t) (acc W c (t.val - 1) (Nat.lt_of_le_of_lt (Nat.sub_le _ _) t.isLt)) := by
  obtain ⟨n, hn⟩ := t
  cases n with
  | zero => exact absurd (Nat.zero_mod _) h
  | succ n => exact if_neg h

/-- What the output's block holds after the last block's point: the accumulator scaled by row and by column, the bias added. -/
def out (c : Dev nD) (t : Fin cfg1.N) : Vec F S1536x1024 .bf16 :=
  k1_pay4 (acc W c t.val t.isLt) (iblk W c 2 t) (iblk W c 3 t) (iblk W c 4 t)

/-- The accumulator's buffer, whole. -/
abbrev scM : Memref sig .tc .vmem S1536x1024 .f32 := Memref.whole cc1_scratch0

/-- The other scoped buffers of the core that are no staging buffer of this region, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The scoped rest and the generator register, the accumulator's buffer named. -/
theorem PhiA_eq (c : Dev nD) :
    (Pipeline.ΦA spec1 c : sProp 𝕄) ⊣⊢ iprop((others c ∗ (∃ d, owns (c : Thread nD τ) scM fullShare d)) ∗ (∃ r, prngReg c r)) := by
  unfold Pipeline.ΦA others; rw [scopedRest1_eq]; simp only [scM, owns_whole]
  constructor
  · iintro ⟨⟨H0, H1, H2, H3, H4, H5, H6⟩, Hg⟩
    isplitr [Hg]
    · isplitr [H6]
      · isplitl [H0]; · iexact H0
        isplitl [H1]; · iexact H1
        isplitl [H2]; · iexact H2
        isplitl [H3]; · iexact H3
        isplitl [H4]; · iexact H4
        iexact H5
      iexact H6
    iexact Hg
  · iintro ⟨⟨⟨H0, H1, H2, H3, H4, H5⟩, H6⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      iexact H6
    iexact Hg

/-- The invariant before position `n`: before the first point the accumulator at anything, afterwards at what the point before
    left. -/
def Phi (c : Dev nD) : (n : ℕ) → n ≤ cfg1.N → sProp 𝕄
  | 0, _ => iprop((others c ∗ (∃ d, owns (c : Thread nD τ) scM fullShare d)) ∗ (∃ r, prngReg c r))
  | n + 1, h => iprop((others c ∗ owns (c : Thread nD τ) scM fullShare (acc W c n h)) ∗ (∃ r, prngReg c r))

/-- After point `n` the accumulator holds what point `n` left in it. -/
theorem Phi_succ (c : Dev nD) (n : ℕ) (h : n < cfg1.N) :
    Phi W c (n + 1) h = iprop((others c ∗ owns (c : Thread nD τ) scM fullShare (acc W c n h)) ∗ (∃ r, prngReg c r)) := rfl

/-- Before a point that is not the first the accumulator holds what the point before left. -/
theorem Phi_pos (c : Dev nD) (n : ℕ) (h : n ≤ cfg1.N) (hz : n ≠ 0) :
    Phi W c n h = iprop((others c ∗ owns (c : Thread nD τ) scM fullShare (acc W c (n - 1) (by omega))) ∗ (∃ r, prngReg c r)) := by
  cases n with
  | zero => exact absurd rfl hz
  | succ n => rfl

/-- At any position the accumulator's buffer is held at some contents. -/
theorem Phi_any (c : Dev nD) (n : ℕ) (h : n ≤ cfg1.N) :
    Phi W c n h ⊢ iprop((others c ∗ (∃ d, owns (c : Thread nD τ) scM fullShare d)) ∗ (∃ r, prngReg c r)) := by
  cases n with
  | zero => exact .rfl
  | succ n =>
    rw [Phi_succ]
    iintro ⟨⟨Ho, HS⟩, Hg⟩
    isplitr [Hg]
    · isplitl [Ho]; · iexact Ho
      iexists _; iexact HS
    iexact Hg

/-- The region's proof data: the arrays as the region finds them; after the body each input's buffer at its block, the output's
    at the scaled accumulator; the invariant `Phi`; nothing owed; full shares. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => out W c t
  Φ t := Phi W c t.val (Nat.le_of_lt_succ t.isLt)
  q _ := fullShare
  owed _ := 0

/-- The proof data's arrays are the contents the region finds. -/
theorem A_eq (c : Dev nD) (w : Fin cfg1.W) : (dat W c).A w = W c (Proc.devRef .tc (Pipeline.arrRef spec1 w)) := by
  dsimp only [dat]

/-- The region's invariant at a point is `Phi` at its number. -/
theorem Phi_castSucc (c : Dev nD) (t : Fin cfg1.N) : (dat W c).Φ t.castSucc = Phi W c t.val (Nat.le_of_lt t.isLt) := by
  dsimp only [dat]; exact Pipeline.Dat.Φ_castSucc (Phi W c) t

/-- What the body leaves in each window's buffer. -/
theorem after_0 (c : Dev nD) (t : Fin cfg1.N) : (dat W c).after 0 t = iblk W c 0 t := by dsimp only [dat]
/-- The body leaves input window 1's buffer as its block. -/
theorem after_1 (c : Dev nD) (t : Fin cfg1.N) : (dat W c).after 1 t = iblk W c 1 t := by dsimp only [dat]
/-- The body leaves input window 2's buffer as its block. -/
theorem after_2 (c : Dev nD) (t : Fin cfg1.N) : (dat W c).after 2 t = iblk W c 2 t := by dsimp only [dat]
/-- The body leaves input window 3's buffer as its block. -/
theorem after_3 (c : Dev nD) (t : Fin cfg1.N) : (dat W c).after 3 t = iblk W c 3 t := by dsimp only [dat]
/-- The body leaves input window 4's buffer as its block. -/
theorem after_4 (c : Dev nD) (t : Fin cfg1.N) : (dat W c).after 4 t = iblk W c 4 t := by dsimp only [dat]
/-- The output's buffer is left holding what the point puts there. -/
theorem after_5 (c : Dev nD) (t : Fin cfg1.N) : (dat W c).after 5 t = out W c t := by dsimp only [dat]

/-- Each input's buffer holds its block at every point. -/
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The buffer of input window 1 holds its block at every point. -/
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The buffer of input window 2 holds its block at every point. -/
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The buffer of input window 3 holds its block at every point. -/
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- The buffer of input window 4 holds its block at every point. -/
theorem before_4 (c : Dev nD) (t : Fin cfg1.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d)))

/-- and what it returns. -/
def bodyPost (c : Dev nD) (t : Fin cfg1.N) : sProp 𝕄 :=
  iprop((dat W c).Φ t.succ ∗ (dat W c).owesAt () t.succ
    ∗ (dat W c).leavesExact 0 t ∗ (dat W c).leavesExact 1 t ∗ (dat W c).leavesExact 2 t
    ∗ (dat W c).leavesExact 3 t ∗ (dat W c).leavesExact 4 t ∗ (dat W c).leavesExact 5 t)

/-- The inputs' buffers are left at their blocks. -/
theorem leaves_in (c : Dev nD) (t : Fin cfg1.N) :
    (dat W c).leavesExact 0 t = owns (c : Thread nD τ) (st1_0 t) fullShare (iblk W c 0 t)
    ∧ (dat W c).leavesExact 1 t = owns (c : Thread nD τ) (st1_1 t) fullShare (iblk W c 1 t)
    ∧ (dat W c).leavesExact 2 t = owns (c : Thread nD τ) (st1_2 t) fullShare (iblk W c 2 t)
    ∧ (dat W c).leavesExact 3 t = owns (c : Thread nD τ) (st1_3 t) fullShare (iblk W c 3 t)
    ∧ (dat W c).leavesExact 4 t = owns (c : Thread nD τ) (st1_4 t) fullShare (iblk W c 4 t) := by
  refine ⟨?_, ?_, ?_, ?_, ?_⟩ <;> unfold Dat.leavesExact
  · rw [show cfg1.idle 0 (grid1.coords t) = false from rfl, after_0]
  · rw [show cfg1.idle 1 (grid1.coords t) = false from rfl, after_1]
  · rw [show cfg1.idle 2 (grid1.coords t) = false from rfl, after_2]
  · rw [show cfg1.idle 3 (grid1.coords t) = false from rfl, after_3]
  · rw [show cfg1.idle 4 (grid1.coords t) = false from rfl, after_4]

/-- The output's buffer is left at the scaled accumulator where the reduction ends. -/
theorem leaves_out (c : Dev nD) (t : Fin cfg1.N) (h : t.val % 12 = 11) :
    (dat W c).leavesExact 5 t = owns (c : Thread nD τ) (st1_5 t) fullShare (out W c t) := by
  unfold Dat.leavesExact; rw [live_of t h, after_5]

set_option maxHeartbeats 2000000 in
/-- The body at any point: its case is the point's position in the reduction. -/
theorem sound_body (c : Dev nD) (t : Fin cfg1.N) :
    bodyPre W c t ⊢ wp frame (wpE (defs₀ (F := F)) Variants.none c none) Set.univ (bodyAt1 t) (fun _ => bodyPost W c t) := by
  obtain ⟨e0, e1, e2, e3, e4⟩ := leaves_in W c t
  unfold bodyPre bodyPost bodyAt1
  simp only [before_0, before_1, before_2, before_3, before_4]
  rw [e0, e1, e2, e3, e4, show (dat W c).owesAt () t.succ = (dat W c).owesAt () t.castSucc from rfl,
    show (dat W c).Φ t.succ = Phi W c (t.val + 1) t.isLt from rfl, Phi_succ, Phi_castSucc]
  by_cases h0 : t.val % 12 = 0
  · rw [Dat.leavesExact_idle (dat W c) 5 t (idle_of t (by omega)) (noFlush_of t (by omega)), acc_first W c t h0]
    refine (sep_mono (Phi_any W c _ _) .rfl).trans ?_
    iintro ⟨⟨⟨Hr, HS⟩, Hg⟩, Ho, ⟨%d0, H0⟩, ⟨%d1, H1⟩, ⟨%d2, H2⟩, ⟨%d3, H3⟩, ⟨%d4, H4⟩, ⟨%d5, H5⟩⟩
    iapply (run_first c (grid1.coords t) _ _ _ _ _ _ _ _ _ _ _ _ _ _ (iblk W c 0 t) (iblk W c 1 t) (iblk W c 2 t) (iblk W c 3 t) (iblk W c 4 t)
      ((hcond0 t).mpr h0) (fun h => by have := (hcond1 t).mp h; omega) (fun h => by have := (hcond2 t).mp h; omega) _ Set.univ _)
    isplitl [H0 H1 H2 H3 H4]
    · isplitl [H0]; · iexact H0
      isplitl [H1]; · iexact H1
      isplitl [H2]; · iexact H2
      isplitl [H3]; · iexact H3
      iexact H4
    isplitl [H5]; · iexact H5
    isplitl [HS]; · iexact HS
    iintro ⟨⟨H0, H1, H2, H3, H4⟩, H5, HS⟩
    isplitl [HS Hg Hr]
    · isplitl [HS Hr]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [Phi_pos W c _ _ (fun h => h0 (by rw [h])), acc_next W c t h0]
    by_cases h2 : t.val % 12 = 11
    · rw [leaves_out W c t h2]
      unfold out
      rw [acc_next W c t h0]
      iintro ⟨⟨⟨Hr, HS⟩, Hg⟩, Ho, ⟨%d0, H0⟩, ⟨%d1, H1⟩, ⟨%d2, H2⟩, ⟨%d3, H3⟩, ⟨%d4, H4⟩, ⟨%d5, H5⟩⟩
      iapply (run_last c (grid1.coords t) _ _ _ _ _ _ _ _ _ _ _ _ _ _ (iblk W c 0 t) (iblk W c 1 t) (iblk W c 2 t) (iblk W c 3 t) (iblk W c 4 t)
        (fun h => h0 ((hcond0 t).mp h)) ((hcond1 t).mpr (by omega)) ((hcond2 t).mpr h2) _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [HS]; · iexact HS
      iintro ⟨⟨H0, H1, H2, H3, H4⟩, H5, HS⟩
      isplitl [HS Hg Hr]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat W c) 5 t (idle_of t h2) (noFlush_of t h2)]
      iintro ⟨⟨⟨Hr, HS⟩, Hg⟩, Ho, ⟨%d0, H0⟩, ⟨%d1, H1⟩, ⟨%d2, H2⟩, ⟨%d3, H3⟩, ⟨%d4, H4⟩, ⟨%d5, H5⟩⟩
      iapply (run_middle c (grid1.coords t) _ _ _ _ _ _ _ _ _ _ _ _ _ _ (iblk W c 0 t) (iblk W c 1 t) (iblk W c 2 t) (iblk W c 3 t) (iblk W c 4 t)
        (fun h => h0 ((hcond0 t).mp h)) ((hcond1 t).mpr (by omega)) (fun h => h2 ((hcond2 t).mp h)) _ _ Set.univ _)
      isplitl [H0 H1 H2 H3 H4]
      · isplitl [H0]; · iexact H0
        isplitl [H1]; · iexact H1
        isplitl [H2]; · iexact H2
        isplitl [H3]; · iexact H3
        iexact H4
      isplitl [H5]; · iexact H5
      isplitl [HS]; · iexact HS
      iintro ⟨⟨H0, H1, H2, H3, H4⟩, H5, HS⟩
      isplitl [HS Hg Hr]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s slots is the body. -/
theorem defs₀_row (t : Fin cfg1.N) :
    defs₀ (F := F) .tc cfg1.body (cfg1.bodyArgs t (cfg1.slots t)) = bodyAt1 t := by
  unfold defs₀; rw [Defs.onTc_tc]

/-- The body obligation of the matrix-product region. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- What the launch hands the region is the invariant before the first point. -/
theorem hin (c : Dev nD) : Pipeline.ΦA spec1 c ⊢ (dat W c).Φ 0 := by
  rw [show (dat W c).Φ 0 = Phi W c 0 (Nat.zero_le _) from rfl]
  exact (PhiA_eq c).1

/-- After the last point the invariant gives it back, the accumulator forgotten. -/
theorem hout (c : Dev nD) : (dat W c).Φ (Fin.last cfg1.N) ⊢ Pipeline.ΦA spec1 c :=
  (show _ ⊢ _ from Phi_any W c (Fin.last cfg1.N).val (Nat.le_of_lt_succ (Fin.last cfg1.N).isLt)).trans (PhiA_eq c).2

end Cert.Kernel.Mat

end
-- ==== Proof.KernelRun.lean ====
/- The run of the kernel's program, at any float values: its two regions between its three stretches of host operations, from
   any memory with every counter at zero, end with every unscoped buffer at the contents the five items compute one after the
   other and every counter back at zero. -/
module

public import proofs.«01_k».proof.Proof.KernelMat
public import proofs.«01_k».proof.Proof.Gen.Kernel.Regions
public import Idealize.ShloMosaic.Lib.Pipeline.RegionArraysS

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- After the activations are reshaped to rows. -/
def U1 (c : Dev nD) : Valuation τ sig (Elt F) := StableHlo.after hostOps0 (fun b => m (c, b))
/-- After the quantising region. -/
def U2 (c : Dev nD) : Valuation τ sig (Elt F) := Pipeline.afterRegion (Quant.dat (U1 m) c) (U1 m c)
/-- After the weights' scales and the bias are reshaped to rows. -/
def U3 (c : Dev nD) : Valuation τ sig (Elt F) := StableHlo.after hostOps1 (U2 m c)
/-- After the matrix-product region. -/
def U4 (c : Dev nD) : Valuation τ sig (Elt F) := Pipeline.afterRegion (Mat.dat (U3 m) c) (U3 m c)
/-- After the results are reshaped. -/
def U5 (c : Dev nD) : Valuation τ sig (Elt F) := StableHlo.after hostOps2 (U4 m c)

/-- The host reshapes before the first region change only what they write. -/
theorem U1_of (c : Dev nD) (r : Ref sig .tc) (h : r ∉ hostOps0_W) : U1 m c r = m (c, Proc.devRef .tc r) :=
  StableHlo.after_of_writes_sub hostOps0 _ hostOps0_writes h
/-- The first region changes only its outputs. -/
theorem U2_of (c : Dev nD) (r : Ref sig .tc) (h : ∀ w, Pipeline.arrRef cfg0.spec w = r → (cfg0.win w).isOut = false) : U2 m c r = U1 m c r :=
  Pipeline.afterRegion_keeps (Quant.dat (U1 m) c) (U1 m c) winFacts0.arr_inj (Quant.A_eq (U1 m) c) r h
/-- The host reshapes between the regions change only what they write. -/
theorem U3_of (c : Dev nD) (r : Ref sig .tc) (h : r ∉ hostOps1_W) : U3 m c r = U2 m c r :=
  StableHlo.after_of_writes_sub hostOps1 _ hostOps1_writes h
/-- The second region changes only its output. -/
theorem U4_of (c : Dev nD) (r : Ref sig .tc) (h : ∀ w, Pipeline.arrRef cfg1.spec w = r → (cfg1.win w).isOut = false) : U4 m c r = U3 m c r :=
  Pipeline.afterRegion_keeps (Mat.dat (U3 m) c) (U3 m c) winFacts1.arr_inj (Mat.A_eq (U3 m) c) r h
/-- The last host reshapes change only what they write. -/
theorem U5_of (c : Dev nD) (r : Ref sig .tc) (h : r ∉ hostOps2_W) : U5 m c r = U4 m c r :=
  StableHlo.after_of_writes_sub hostOps2 _ hostOps2_writes h

/-- A region's output window's array, after the region. -/
theorem U2_arr (c : Dev nD) (w : Fin cfg0.W) : U2 m c (Proc.devRef .tc (Pipeline.arrRef spec0 w)) = (Quant.dat (U1 m) c).arrAt w cfg0.N :=
  Pipeline.afterRegion_arr (Quant.dat (U1 m) c) (U1 m c) winFacts0.arr_inj w
/-- The second region's arrays end as its windows leave them. -/
theorem U4_arr (c : Dev nD) (w : Fin cfg1.W) : U4 m c (Proc.devRef .tc (Pipeline.arrRef spec1 w)) = (Mat.dat (U3 m) c).arrAt w cfg1.N :=
  Pipeline.afterRegion_arr (Mat.dat (U3 m) c) (U3 m c) winFacts1.arr_inj w

/-- No item writes an argument. -/
theorem U5_arg (c : Dev nD) (r : Ref sig .tc) (h0 : r ∉ hostOps0_W) (h1 : ∀ w, Pipeline.arrRef cfg0.spec w = r → (cfg0.win w).isOut = false)
    (h2 : r ∉ hostOps1_W) (h3 : ∀ w, Pipeline.arrRef cfg1.spec w = r → (cfg1.win w).isOut = false) (h4 : r ∉ hostOps2_W) :
    U5 m c r = m (c, Proc.devRef .tc r) :=
  (U5_of m c r h4).trans <| (U4_of m c r h3).trans <| (U3_of m c r h2).trans <| (U2_of m c r h1).trans (U1_of m c r h0)

/-! ## The items as segments -/

/-- The staging cells' tokens: one per counter of a TensorCore. -/
def L (g : GSem nD τ sig) : Finset Unit := if g.1.2 = .tc then {()} else ∅
/-- Every counter at one level: no region owes anything. -/
def lv (_ : GSem nD τ sig) (_ : Unit) : ℕ := 0

/-- The one level is among the levels of every semaphore of a core. -/
theorem L_tc (c : Dev nD) (sm : SemLoc sig) : () ∈ L ((c : Thread nD τ), sm) := by
  unfold L; rw [if_pos rfl]; exact Finset.mem_singleton_self _

/-- What rides along beside the buffers: the core owing nothing and the generator register at some state. -/
abbrev E (c : Dev nD) : sProp 𝕄 := iprop((∃ Wd, owes (c : Thread nD τ) (0 : CellTallies nD τ sig Unit) Wd) ∗ (∃ r, prngReg c r) ∗ emp)

/-- A stretch of host operations over the unscoped buffers. -/
def hostSeg (ops : List (HloOp τ sig (Elt F))) (hs : ops.Forall fun op => op.bufs ⊆ StableHlo.tcRefs τ sig)
    (hf : ops.Forall fun op => op.fresh = ∅) (V : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hs) op h))
    (fun op h => (List.forall_iff_forall_mem.mp hf) op h) V E

/-- The two regions' proof data. -/
def pdats : (p : Fin 2) → (c : Dev nD) → Dat τ (Elt F) Unit ℕ (UR sig nD τ) ℕ (cfgs p) c
  | 0 => Quant.dat (U1 m)
  | 1 => Mat.dat (U3 m)

/-- No region owes, so the levels order its waits. -/
theorem cut (p : Fin 2) : Pipeline.LevelCut (pcfgs (F := F)) adm () L lv p (fun _ => 0) (fun _ : Dev nD => 0) where
  hι c w s := L_tc c _
  hιb c w s := le_refl 0
  hD c g i h := absurd h (lt_irrefl 0)

set_option backward.isDefEq.respectTransparency.types false in
/-- The quantising region's record. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Quant.body_obligation (U1 m) c).loose) (fun _ _ => rfl) (fun _ => rfl)
    (fun c => (Quant.dat (U1 m) c).share_full fun _ => rfl)
    (fun c => .rfl) (fun c => .rfl) (fun _ => 0) (cut 0) (fun _ => iprop(emp)) (U1 m)
    (fun c w => Quant.A_eq (U1 m) c w)

set_option backward.isDefEq.respectTransparency.types false in
/-- The matrix-product region's record. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Mat.body_obligation (U3 m) c).loose) (fun _ _ => rfl) (fun _ => rfl)
    (fun c => (Mat.dat (U3 m) c).share_full fun _ => rfl)
    (fun c => Mat.hin (U3 m) c) (fun c => Mat.hout (U3 m) c) (fun _ => 0) (cut 1) (fun _ => iprop(emp)) (U3 m)
    (fun c w => Mat.A_eq (U3 m) c w)

/-- @main's five items. -/
abbrev items (_ : Dev nD) : List (Seg (pcfgs (F := F)) adm (pdats m) () defs₀ Variants.none L lv) :=
  [.host (hostSeg hostOps0 hostOps0_sub hostOps0_fresh (fun c b => m (c, b))), .region (R0 m),
   .host (hostSeg hostOps1 hostOps1_sub hostOps1_fresh (U2 m)), .region (R1 m),
   .host (hostSeg hostOps2 hostOps2_sub hostOps2_fresh (U4 m))]

/-- The regions' arrays are unscoped buffers. -/
theorem arrs_sub (p : Fin 2) : Pipeline.arrRefs ((pcfgs (F := F)) p).spec ⊆ Pipeline.ucRefs τ sig :=
  Pipeline.arrRefs_sub_ucRefs ((pcfgs (F := F)) p).spec (match p with | 0 => winFacts0.arr_unscoped | 1 => winFacts1.arr_unscoped)

set_option backward.isDefEq.respectTransparency.types false

/-- What is held before the first region is what the region wants. -/
theorem hpre0 (c : Dev nD) : iprop(StableHlo.held (c : Thread nD τ) (Pipeline.ucRefs τ sig) (U1 m c) ∗ E c) ⊢ (R0 m).pre c :=
  RegionSeg.ofHeldIn_pre (arrs_sub 0) (D := fun _ => 0) (X := fun c => iprop(∃ r, prngReg c r)) (Y := fun c => iprop(∃ r, prngReg c r)) (R := fun _ => iprop(emp)) (W := U1 m) c
/-- What the first region gives back is held after it. -/
theorem hpost0 (c : Dev nD) : (R0 m).post c ⊢ iprop(StableHlo.held (c : Thread nD τ) (Pipeline.ucRefs τ sig) (U2 m c) ∗ E c) :=
  RegionSeg.ofHeldIn_post (arrs_sub 0) c
/-- What is held before the second region is what the region wants. -/
theorem hpre1 (c : Dev nD) : iprop(StableHlo.held (c : Thread nD τ) (Pipeline.ucRefs τ sig) (U3 m c) ∗ E c) ⊢ (R1 m).pre c :=
  RegionSeg.ofHeldIn_pre (arrs_sub 1) (D := fun _ => 0) (X := fun c => iprop(∃ r, prngReg c r)) (Y := fun c => iprop(∃ r, prngReg c r)) (R := fun _ => iprop(emp)) (W := U3 m) c
/-- What the second region gives back is held after it. -/
theorem hpost1 (c : Dev nD) : (R1 m).post c ⊢ iprop(StableHlo.held (c : Thread nD τ) (Pipeline.ucRefs τ sig) (U4 m c) ∗ E c) :=
  RegionSeg.ofHeldIn_post (arrs_sub 1) c

/-! ## The run -/

set_option backward.isDefEq.respectTransparency.types false in
/-- Every weakly fair execution of @main from memory `m` with every counter at zero terminates, with every unscoped buffer at
    `U5 m` and every counter at zero. -/
theorem run : θ_run defs (onTc (τ := τ) (main (F := F))) ⟨m, fun _ => 0, ρ⟩ (fun r =>
    (∀ c : Dev nD, ∀ b ∈ Pipeline.ucRefs τ sig, r.2.mem (c, b) = U5 m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0)
    (fun g h => by unfold L; rw [if_neg h]) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ E c))
    (Tₙ := fun c => StableHlo.held (c : Thread nD τ) (Pipeline.ucRefs τ sig) (U5 m c))
    (hch := fun c => ⟨.rfl, hpre0 m c, hpost0 m c, hpre1 m c, hpost1 m c, sep_mono .rfl (by iintro ⟨H, -⟩; iexact H)⟩)
    (hinit := ?_) (QY := fun c s => ∀ b ∈ Pipeline.ucRefs τ sig, s.mem (c, b) = U5 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (fun b => m (c, b)) from
      Pipeline.unscopedBufs_held (Ix := Unit) (Name := ℕ) (U := UR sig nD τ) (Lvl := ℕ) c (fun b => m (c, b))]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    imodintro
    iapply (pointsTo_read_all (Pipeline.ucRefs τ sig) (fun b => ((c : Thread nD τ).1, b)) (U5 m c) s')
    isplitl [Hh] <;> iassumption

/-- A TensorCore reference that is not scoped is read off the run. -/
theorem mem_ucRefs (r : Ref sig .tc) (h : r.isScoped = false) : (Proc.devRef .tc r : DevRef τ sig) ∈ Pipeline.ucRefs τ sig :=
  Finset.mem_filter.mpr ⟨StableHlo.devRef_mem_tcRefs r, by simpa using h⟩

/-- The run leaves the four arguments as launched, the three results at `U5 m`, and every counter at zero. -/
theorem run_post : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v5) = U5 m c main_v5
      ∧ r.2.mem ((c.tc : Thread nD τ).loc main_v6) = U5 m c main_v6
      ∧ r.2.mem ((c.tc : Thread nD τ).loc main_v7) = U5 m c main_v7)
      ∧ r.2.sem = fun _ => 0) :=
  (θ_run defs _ _).mono (fun r h => ⟨fun c =>
    ⟨⟨(h.1 c _ (mem_ucRefs main_arg0 (by decide))).trans (U5_arg m c main_arg0 (by decide) (by decide) (by decide) (by decide) (by decide)),
      (h.1 c _ (mem_ucRefs main_arg1 (by decide))).trans (U5_arg m c main_arg1 (by decide) (by decide) (by decide) (by decide) (by decide)),
      (h.1 c _ (mem_ucRefs main_arg2 (by decide))).trans (U5_arg m c main_arg2 (by decide) (by decide) (by decide) (by decide) (by decide)),
      (h.1 c _ (mem_ucRefs main_arg3 (by decide))).trans (U5_arg m c main_arg3 (by decide) (by decide) (by decide) (by decide) (by decide))⟩,
     h.1 c _ (mem_ucRefs main_v5 (by decide)), h.1 c _ (mem_ucRefs main_v6 (by decide)), h.1 c _ (mem_ucRefs main_v7 (by decide))⟩, h.2⟩) (run m ρ)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run_post m ρ)

end Cert.Kernel.Run

end
-- ==== Proof.KernelIdealQuant.lean ====
/- The quantising region of the kernel, at any float values: from any contents of the core's buffers, each grid point reads
   one block of 64 rows of the activations and leaves the block of codes and the block of scales the body's payloads compute
   from it; the region's proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Tactic

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered.
variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-! ## The body -/

abbrev r0 : Rect S64x27648 := Rect.unit (s := S64x27648) ![0, 0] S64x27648.size inb_S64x27648_S64x27648_0_0
abbrev r1 : Rect S64x1 := Rect.unit (s := S64x1) ![0, 0] S64x1.size inb_S64x1_S64x1_0_0

/-- What the codes' block holds after the body on the block `x` of activations. -/
def codes (x : Vec F S64x27648 .bf16) : Vec F S64x27648 .fp8e4m3 :=
  View.canon [⟨r0, k0_pay2 (k0_pay3 (View.ld x r0)) (k0_pay4 (View.ld x r0))⟩]

/-- What the scales' block holds after the body on the block `x` of activations. -/
def scales (x : Vec F S64x27648 .bf16) : Vec F S64x1 .f32 :=
  View.canon [⟨r1, k0_pay1 (F := F) (k0_pay5 (View.ld x r0)) (k0_pay6 (View.ld x r0)) (k0_pay7 (View.ld x r0))⟩]

/-- The one store of the codes covers their block. -/
theorem cover_codes (p : Vec F S64x27648 .fp8e4m3) (y : S64x27648.Idx) :
    ∃ pc ∈ ([⟨r0, p⟩] : List (View.Piece (Elt F) S64x27648 .fp8e4m3)), y ∈ pc.1.set :=
  View.cover_of_tiled [⟨r0, p⟩] S64x27648.size (by rfl) y

/-- The one store of the scales covers their block. -/
theorem cover_scales (p : Vec F S64x1 .f32) (y : S64x1.Idx) :
    ∃ pc ∈ ([⟨r1, p⟩] : List (View.Piece (Elt F) S64x1 .f32)), y ∈ pc.1.set :=
  View.cover_of_tiled [⟨r1, p⟩] S64x1.size (by rfl) y

set_option maxHeartbeats 1000000 in
/-- The body on whole memrefs, the activations' at `x` and the outputs' at anything, leaves the activations as they were, the
    codes at `codes x` and the scales at `scales x`. -/
theorem sound_kernel (c : Dev nD) (E : Set ℕ) (i : grid0.Coords) (arg1 : Memref sig .tc .vmem S64x27648 .bf16) (harg1 : arg1.IsWhole)
    (arg2 : Memref sig .tc .vmem S64x27648 .fp8e4m3) (harg2 : arg2.IsWhole) (arg3 : Memref sig .tc .vmem S64x1 .f32) (harg3 : arg3.IsWhole)
    (x : Vec F S64x27648 .bf16) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (codes x) ∗ owns (c : Thread nD τ) arg3 fullShare (scales x)) -∗ K ⟨⟩))
      ⊢ wp frame (wpE (defs₀ (F := F)) Variants.none c none) E (cc0_quantise i arg1 harg1 arg2 harg2 arg3 harg3) K := by
  simp only [cc0_quantise_eq_skeleton]; unfold cc0_quantise_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover_codes _)
  iexists _; isplitr
  swap; · iexact H2
  ipureintro
  exact View.read_writes_eq_canon _ _ _ (cover_scales _)

/-! ## The proof data and the body obligation -/

/-- The region's proof data: the arrays as the region finds them; after the body each window's buffer at the activations' block,
    its codes, its scales; the scoped rest and the generator register carried untouched; nothing owed; full shares. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => codes (iblk W c 0 t)
    | ⟨2, _⟩ => scales (iblk W c 0 t)
  Φ _ := Pipeline.ΦA spec0 c
  q _ := fullShare
  owed _ := 0

/-- The proof data's arrays are the contents the region finds. -/
theorem A_eq (c : Dev nD) (w : Fin cfg0.W) : (dat W c).A w = W c (Proc.devRef .tc (Pipeline.arrRef spec0 w)) := by
  dsimp only [dat]

/-- What the body leaves in each window's buffer. -/
theorem after_0 (c : Dev nD) (t : Fin cfg0.N) : (dat W c).after 0 t = iblk W c 0 t := by dsimp only [dat]
/-- The codes' buffer is left holding the codes of the block. -/
theorem after_1 (c : Dev nD) (t : Fin cfg0.N) : (dat W c).after 1 t = codes (iblk W c 0 t) := by dsimp only [dat]
/-- The scales' buffer is left holding the scales of the block. -/
theorem after_2 (c : Dev nD) (t : Fin cfg0.N) : (dat W c).after 2 t = scales (iblk W c 0 t) := by dsimp only [dat]

/-- The activations' buffer holds its block at every point. -/
theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t))

/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0]
  rw [show (dat W c).Φ t.succ = (dat W c).Φ t.castSucc from rfl,
    show (dat W c).owesAt () t.succ = (dat W c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk W c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation of the quantising region. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Quant

end
-- ==== Proof.KernelIdealMat.lean ====
/- The matrix-product region of the kernel, at any float values: from any contents of the core's buffers, what the body does at
   a grid point in each of its three cases (the reduction's first block, a middle block, its last block), what the accumulator
   holds after each point, the region's proof data and its body obligation. -/
module

public import proofs.«01_k».proof.Proof.KernelIdealQuant
public import Idealize.ShloMosaic.Lib.Ring
public import Idealize.ShloMosaic.Lib.WordCmp
public import Idealize.ShloMosaic.Lib.Pipeline.Value

@[expose] public section

set_option maxRecDepth 16384

noncomputable section

namespace Cert.KernelIdeal.Mat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The reduction's first block: `k == 0`. -/
abbrev cond0 (i : grid1.Coords) : Prop := (Scalar.cmpi .ne (Scalar.extui (Scalar.cmpi .eq (BitVec.ofNat 32 (i 1).val) 0#32)) 0#32) = 1#1
/-- Any later block: `k > 0`. -/
abbrev cond1 (i : grid1.Coords) : Prop := (Scalar.cmpi .ne (Scalar.extui (Scalar.cmpi .sgt (BitVec.ofNat 32 (i 1).val) 0#32)) 0#32) = 1#1
/-- The last block: `k == 11`. -/
abbrev cond2 (i : grid1.Coords) : Prop := k1_cond3 i = 1#1

/-- The first block is met at the points ≡ 0 (mod 12). -/
theorem hcond0 : ∀ t : Fin cfg1.N, cond0 (grid1.coords t) ↔ t.val % 12 = 0 :=
  (by decide +kernel : ∀ t : Fin grid1.N, cond0 (grid1.coords t) ↔ t.val % 12 = 0)
/-- A later block is met at the other points. -/
theorem hcond1 : ∀ t : Fin cfg1.N, cond1 (grid1.coords t) ↔ 1 ≤ t.val % 12 :=
  (by decide +kernel : ∀ t : Fin grid1.N, cond1 (grid1.coords t) ↔ 1 ≤ t.val % 12)
/-- The last block is met at the points ≡ 11 (mod 12). -/
theorem hcond2 : ∀ t : Fin cfg1.N, cond2 (grid1.coords t) ↔ t.val % 12 = 11 :=
  (by decide +kernel : ∀ t : Fin grid1.N, cond2 (grid1.coords t) ↔ t.val % 12 = 11)

/-- The output is idle exactly where the last block is not met. -/
theorem idle_of (t : Fin cfg1.N) (h : t.val % 12 ≠ 11) : cfg1.idle 5 (grid1.coords t) = true :=
  (by decide +kernel : ∀ t : Fin grid1.N, t.val % 12 ≠ 11 → cfg1.idle 5 (grid1.coords t) = true) t h
/-- At the last summed block of a column block the output window is live. -/
theorem live_of (t : Fin cfg1.N) (h : t.val % 12 = 11) : cfg1.idle 5 (grid1.coords t) = false :=
  (by decide +kernel : ∀ t : Fin grid1.N, t.val % 12 = 11 → cfg1.idle 5 (grid1.coords t) = false) t h
/-- An output block is written back only where the last block is met. -/
theorem noFlush_of (t : Fin cfg1.N) (h : t.val % 12 ≠ 11) : (cfg1.win 5).flush t = false := by
  have := (flush1_5 t).not.mpr h
  simpa using this

/-! ## The body, case by case -/

section Whole

variable {Val : EltTy → Type} [∀ e, Nonempty (Val e)] {sg : RefSig} {κ : Kind} {sp : Space} {S : Shape} {e : EltTy}

/-- A load of a whole view reads its contents. -/
theorem readAt_whole (v : View sg κ sp S e) (f : v.ty.Contents Val) {off : Fin S.rank → Nat} (h : off = fun _ => 0)
    (inb : ∀ a, off a + S.size a ≤ S.size a) : v.readAt Val (Rect.unit off S.size inb).toLoadRect f = v.read Val f :=
  (show _ = View.ld (v.read Val f) (Rect.unit off S.size inb) from rfl).trans (View.ld_unit_zero h inb _)

/-- What one store of a whole view leaves reads as its payload. -/
theorem read_store_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ fun y => ⟨_, List.mem_singleton_self _, View.mem_set_unit_zero h inb y⟩).trans
    (View.canon_unit_zero h inb w)

/-- The offsets of the body's accesses are zero. -/
theorem off_zero : (![0, 0] : Fin 2 → Nat) = fun _ => 0 := by decide

end Whole

section Run

variable (c : Dev nD) (i : grid1.Coords)
  (arg2 : Memref sig .tc .vmem S1536x2304 .fp8e4m3) (harg2 : arg2.IsWhole) (arg3 : Memref sig .tc .vmem S2304x1024 .fp8e4m3) (harg3 : arg3.IsWhole)
  (arg4 : Memref sig .tc .vmem S1536x1 .f32) (harg4 : arg4.IsWhole) (arg5 : Memref sig .tc .vmem S1x1024 .f32) (harg5 : arg5.IsWhole)
  (arg6 : Memref sig .tc .vmem S1x1024 .f32) (harg6 : arg6.IsWhole) (arg7 : Memref sig .tc .vmem S1536x1024 .bf16) (harg7 : arg7.IsWhole)
  (arg8 : Memref sig .tc .vmem S1536x1024 .f32) (harg8 : arg8.IsWhole)
  (x0 : Vec F S1536x2304 .fp8e4m3) (x1 : Vec F S2304x1024 .fp8e4m3) (x2 : Vec F S1536x1 .f32) (x3 : Vec F S1x1024 .f32)
  (x4 : Vec F S1x1024 .f32)

/-- The five inputs' buffers at their contents. -/
abbrev ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

set_option maxHeartbeats 1000000 in
/-- At the first block: the accumulator, whatever it held, ends at the block's product; the output's buffer is not touched. -/
theorem run_first (h0 : cond0 i) (h1 : ¬cond1 i) (h2 : ¬cond2 i) (d : Vec F S1536x1024 .bf16) (E : Set ℕ) (K : PUnit → sProp 𝕄) :
    iprop(ins c arg2 arg3 arg4 arg5 arg6 x0 x1 x2 x3 x4 ∗ owns (c : Thread nD τ) arg7 fullShare d ∗ (∃ a, owns (c : Thread nD τ) arg8 fullShare a)
        ∗ (iprop(ins c arg2 arg3 arg4 arg5 arg6 x0 x1 x2 x3 x4 ∗ owns (c : Thread nD τ) arg7 fullShare d
            ∗ owns (c : Thread nD τ) arg8 fullShare (k1_pay2 x0 x1)) -∗ K ⟨⟩))
      ⊢ wp frame (wpE (defs₀ (F := F)) Variants.none c none) E
          (cc1_fp8_matmul i arg2 harg2 arg3 harg3 arg4 harg4 arg5 harg5 arg6 harg6 arg7 harg7 arg8 harg8) K := by
  simp only [cc1_fp8_matmul_eq_skeleton]; unfold cc1_fp8_matmul_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%a, %fs, -, HS⟩, Hk⟩
  subst hf0 hf1 hf2 hf3 hf4 hf5
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists f5; isplitr; · ipureintro; rfl
    iexact H5
  iexists _; isplitr
  swap; · iexact HS
  ipureintro
  rw [read_store_whole _ _ off_zero, readAt_whole _ _ off_zero, readAt_whole _ _ off_zero]

set_option maxHeartbeats 1000000 in
/-- At a middle block: the accumulator at `a` ends at `a` plus the block's product; the output's buffer is not touched. -/
theorem run_middle (h0 : ¬cond0 i) (h1 : cond1 i) (h2 : ¬cond2 i) (a : Vec F S1536x1024 .f32) (d : Vec F S1536x1024 .bf16) (E : Set ℕ) (K : PUnit → sProp 𝕄) :
    iprop(ins c arg2 arg3 arg4 arg5 arg6 x0 x1 x2 x3 x4 ∗ owns (c : Thread nD τ) arg7 fullShare d ∗ owns (c : Thread nD τ) arg8 fullShare a
        ∗ (iprop(ins c arg2 arg3 arg4 arg5 arg6 x0 x1 x2 x3 x4 ∗ owns (c : Thread nD τ) arg7 fullShare d
            ∗ owns (c : Thread nD τ) arg8 fullShare (k1_pay3 x0 x1 a)) -∗ K ⟨⟩))
      ⊢ wp frame (wpE (defs₀ (F := F)) Variants.none c none) E
          (cc1_fp8_matmul i arg2 harg2 arg3 harg3 arg4 harg4 arg5 harg5 arg6 harg6 arg7 harg7 arg8 harg8) K := by
  simp only [cc1_fp8_matmul_eq_skeleton]; unfold cc1_fp8_matmul_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%fs, %hfs, HS⟩, Hk⟩
  subst hf0 hf1 hf2 hf3 hf4 hf5 hfs
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists f5; isplitr; · ipureintro; rfl
    iexact H5
  iexists _; isplitr
  swap; · iexact HS
  ipureintro
  rw [read_store_whole _ _ off_zero, readAt_whole _ _ off_zero, readAt_whole _ _ off_zero, readAt_whole _ _ off_zero]

set_option maxHeartbeats 1000000 in
/-- At the last block: the accumulator at `a` ends at `a` plus the block's product, and the output's buffer, whatever it held, at
    that sum scaled by row and by column, the bias added, rounded to the output's type. -/
theorem run_last (h0 : ¬cond0 i) (h1 : cond1 i) (h2 : cond2 i) (a : Vec F S1536x1024 .f32) (E : Set ℕ) (K : PUnit → sProp 𝕄) :
    iprop(ins c arg2 arg3 arg4 arg5 arg6 x0 x1 x2 x3 x4 ∗ (∃ d, owns (c : Thread nD τ) arg7 fullShare d) ∗ owns (c : Thread nD τ) arg8 fullShare a
        ∗ (iprop(ins c arg2 arg3 arg4 arg5 arg6 x0 x1 x2 x3 x4 ∗ owns (c : Thread nD τ) arg7 fullShare (k1_pay4 (k1_pay3 x0 x1 a) x2 x3 x4)
            ∗ owns (c : Thread nD τ) arg8 fullShare (k1_pay3 x0 x1 a)) -∗ K ⟨⟩))
      ⊢ wp frame (wpE (defs₀ (F := F)) Variants.none c none) E
          (cc1_fp8_matmul i arg2 harg2 arg3 harg3 arg4 harg4 arg5 harg5 arg6 harg6 arg7 harg7 arg8 harg8) K := by
  simp only [cc1_fp8_matmul_eq_skeleton]; unfold cc1_fp8_matmul_skel
  unfold ins owns
  iintro ⟨⟨⟨%f0, %hf0, H0⟩, ⟨%f1, %hf1, H1⟩, ⟨%f2, %hf2, H2⟩, ⟨%f3, %hf3, H3⟩, ⟨%f4, %hf4, H4⟩⟩, ⟨%d, %f5, -, H5⟩, ⟨%fs, %hfs, HS⟩, Hk⟩
  subst hf0 hf1 hf2 hf3 hf4 hfs
  sl_exec (disch := first | sl_exact h0 | sl_exact h1 | sl_exact h2)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists _; isplitr
    swap; · iexact H5
    ipureintro
    unfold run_last.sl.v13 run_last.sl.HS_1
    rw [read_store_whole _ _ off_zero, View.readCov_unit_zero _ off_zero, readAt_whole _ _ off_zero, readAt_whole _ _ off_zero, readAt_whole _ _ off_zero,
      readAt_whole _ _ off_zero, readAt_whole _ _ off_zero, readAt_whole _ _ off_zero]
  iexists _; isplitr
  swap; · iexact HS
  ipureintro
  unfold run_last.sl.HS_1
  rw [read_store_whole _ _ off_zero, readAt_whole _ _ off_zero, readAt_whole _ _ off_zero, readAt_whole _ _ off_zero]

end Run

/-! ## The proof data -/

-- The buffers' contents when the region is entered.
variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The accumulator after the point at position `n`: the block's product at the reduction's first block, the sum with what the
    point before left elsewhere. -/
def acc (c : Dev nD) : (n : ℕ) → n < cfg1.N → Vec F S1536x1024 .f32
  | 0, h => k1_pay2 (iblk W c 0 ⟨0, h⟩) (iblk W c 1 ⟨0, h⟩)
  | n + 1, h =>
    if (n + 1) % 12 = 0 then k1_pay2 (iblk W c 0 ⟨n + 1, h⟩) (iblk W c 1 ⟨n + 1, h⟩)
    else k1_pay3 (iblk W c 0 ⟨n + 1, h⟩) (iblk W c 1 ⟨n + 1, h⟩) (acc c n (Nat.lt_of_succ_lt h))

/-- At a first block. -/
theorem acc_first (c : Dev nD) (t : Fin cfg1.N) (h : t.val % 12 = 0) :
    acc W c t.val t.isLt = k1_pay2 (iblk W c 0 t) (iblk W c 1 t) := by
  obtain ⟨n, hn⟩ := t
  cases n with
  | zero => rfl
  | succ n => exact if_pos h

/-- At a later block. -/
theorem acc_next (c : Dev nD) (t : Fin cfg1.N) (h : t.val % 12 ≠ 0) :
    acc W c t.val t.isLt = k1_pay3 (iblk W c 0 t) (iblk W c 1 t) (acc W c (t.val - 1) (Nat.lt_of_le_of_lt (Nat.sub_le _ _) t.isLt)) := by
  obtain ⟨n, hn⟩ := t
  cases n with
  | zero => exact absurd (Nat.zero_mod _) h
  | succ n => exact if_neg h

/-- What the output's block holds after the last block's point: the accumulator scaled by row and by column, the bias added. -/
def out (c : Dev nD) (t : Fin cfg1.N) : Vec F S1536x1024 .bf16 :=
  k1_pay4 (acc W c t.val t.isLt) (iblk W c 2 t) (iblk W c 3 t) (iblk W c 4 t)

/-- The accumulator's buffer, whole. -/
abbrev scM : Memref sig .tc .vmem S1536x1024 .f32 := Memref.whole cc1_scratch0

/-- The other scoped buffers of the core that are no staging buffer of this region, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The scoped rest and the generator register, the accumulator's buffer named. -/
theorem PhiA_eq (c : Dev nD) :
    (Pipeline.ΦA spec1 c : sProp 𝕄) ⊣⊢ iprop((others c ∗ (∃ d, owns (c : Thread nD τ) scM fullShare d)) ∗ (∃ r, prngReg c r)) := by
  unfold Pipeline.ΦA others; rw [scopedRest1_eq]; simp only [scM, owns_whole]
  constructor
  · iintro ⟨⟨H0, H1, H2, H3, H4, H5, H6⟩, Hg⟩
    isplitr [Hg]
    · isplitr [H6]
      · isplitl [H0]; · iexact H0
        isplitl [H1]; · iexact H1
        isplitl [H2]; · iexact H2
        isplitl [H3]; · iexact H3
        isplitl [H4]; · iexact H4
        iexact H5
      iexact H6
    iexact Hg
  · iintro ⟨⟨⟨H0, H1, H2, H3, H4, H5⟩, H6⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      iexact H6
    iexact Hg

/-- The invariant before position `n`: before the first point the accumulator at anything, afterwards at what the point before
    left. -/
def Phi (c : Dev nD) : (n : ℕ) → n ≤ cfg1.N → sProp 𝕄
  | 0, _ => iprop((others c ∗ (∃ d, owns (c : Thread nD τ) scM fullShare d)) ∗ (∃ r, prngReg c r))
  | n + 1, h => iprop((others c ∗ owns (c : Thread nD τ) scM fullShare (acc W c n h)) ∗ (∃ r, prngReg c r))

/-- After point `n` the accumulator holds what point `n` left in it. -/
theorem Phi_succ (c : Dev nD) (n : ℕ) (h : n < cfg1.N) :
    Phi W c (n + 1) h = iprop((others c ∗ owns (c : Thread nD τ) scM fullShare (acc W c n h)) ∗ (∃ r, prngReg c r)) := rfl

/-- Before a point that is not the first the accumulator holds what the point before left. -/
theorem Phi_pos (c : Dev nD) (n : ℕ) (h : n ≤ cfg1.N) (hz : n ≠ 0) :
    Phi W c n h = iprop((others c ∗ owns (c : Thread nD τ) scM fullShare (acc W c (n - 1) (by omega))) ∗ (∃ r, prngReg c r)) := by
  cases n with
  | zero => exact absurd rfl hz
  | succ n => rfl

/-- At any position the accumulator's buffer is held at some contents. -/
theorem Phi_any (c : Dev nD) (n : ℕ) (h : n ≤ cfg1.N) :
    Phi W c n h ⊢ iprop((others c ∗ (∃ d, owns (c : Thread nD τ) scM fullShare d)) ∗ (∃ r, prngReg c r)) := by
  cases n with
  | zero => exact .rfl
  | succ n =>
    rw [Phi_succ]
    iintro ⟨⟨Ho, HS⟩, Hg⟩
    isplitr [Hg]
    · isplitl [Ho]; · iexact Ho
      iexists _; iexact HS
    iexact Hg

/-- The region's proof data: the arrays as the region finds them; after the body each input's buffer at its block, the output's
    at the scaled accumulator; the invariant `Phi`; nothing owed; full shares. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => out W c t
  Φ t := Phi W c t.val (Nat.le_of_lt_succ t.isLt)
  q _ := fullShare
  owed _ := 0

/-- The proof data's arrays are the contents the region finds. -/
theorem A_eq (c : Dev nD) (w : Fin cfg1.W) : (dat W c).A w = W c (Proc.devRef .tc (Pipeline.arrRef spec1 w)) := by
  dsimp only [dat]

/-- The region's invariant at a point is `Phi` at its number. -/
theorem Phi_castSucc (c : Dev nD) (t : Fin cfg1.N) : (dat W c).Φ t.castSucc = Phi W c t.val (Nat.le_of_lt t.isLt) := by
  dsimp only [dat]; exact Pipeline.Dat.Φ_castSucc (Phi W c) t

/-- What the body leaves in each window's buffer. -/
theorem after_0 (c : Dev nD) (t : Fin cfg1.N) : (dat W c).after 0 t = iblk W c 0 t := by dsimp only [dat]
/-- The body leaves input window 1's buffer as its block. -/
theorem after_1 (c : Dev nD) (t : Fin cfg1.N) : (dat W c).after 1 t = iblk W c 1 t := by dsimp only [dat]
/-- The body leaves input window 2's buffer as its block. -/
theorem after_2 (c : Dev nD) (t : Fin cfg1.N) : (dat W c).after 2 t = iblk W c 2 t := by dsimp only [dat]
/-- The body leaves input window 3's buffer as its block. -/
theorem after_3 (c : Dev nD) (t : Fin cfg1.N) : (dat W c).after 3 t = iblk W c 3 t := by dsimp only [dat]
/-- The body leaves input window 4's buffer as its block. -/
theorem after_4 (c : Dev nD) (t : Fin cfg1.N) : (dat W c).after 4 t = iblk W c 4 t := by dsimp only [dat]
/-- The output's buffer is left holding what the point puts there. -/
theorem after_5 (c : Dev nD) (t : Fin cfg1.N) : (dat W c).after 5 t = out W c t := by dsimp only [dat]

/-- Each input's buffer holds its block at every point. -/
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The buffer of input window 1 holds its block at every point. -/
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The buffer of input window 2 holds its block at every point. -/
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The buffer of input window 3 holds its block at every point. -/
theorem before_3 (c : Dev nD) (t : Fin cfg1.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- The buffer of input window 4 holds its block at every point. -/
theorem before_4 (c : Dev nD) (t : Fin cfg1.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d))
    ∗ (∃ d, owns (c : Thread nD τ) (st1_3 t) fullShare ((dat W c).before 3 t d))
    ∗ (∃ d, owns (c : Thread nD τ) (st1_4 t) fullShare ((dat W c).before 4 t d))
    ∗ (∃ d, owns (c : Thread nD τ) (st1_5 t) fullShare ((dat W c).before 5 t d)))

/-- and what it returns. -/
def bodyPost (c : Dev nD) (t : Fin cfg1.N) : sProp 𝕄 :=
  iprop((dat W c).Φ t.succ ∗ (dat W c).owesAt () t.succ
    ∗ (dat W c).leavesExact 0 t ∗ (dat W c).leavesExact 1 t ∗ (dat W c).leavesExact 2 t
    ∗ (dat W c).leavesExact 3 t ∗ (dat W c).leavesExact 4 t ∗ (dat W c).leavesExact 5 t)

/-- The inputs' buffers are left at their blocks. -/
theorem leaves_in (c : Dev nD) (t : Fin cfg1.N) :
    (dat W c).leavesExact 0 t = owns (c : Thread nD τ) (st1_0 t) fullShare (iblk W c 0 t)
    ∧ (dat W c).leavesExact 1 t = owns (c : Thread nD τ) (st1_1 t) fullShare (iblk W c 1 t)
    ∧ (dat W c).leavesExact 2 t = owns (c : Thread nD τ) (st1_2 t) fullShare (iblk W c 2 t)
    ∧ (dat W c).leavesExact 3 t = owns (c : Thread nD τ) (st1_3 t) fullShare (iblk W c 3 t)
    ∧ (dat W c).leavesExact 4 t = owns (c : Thread nD τ) (st1_4 t) fullShare (iblk W c 4 t) := by
  refine ⟨?_, ?_, ?_, ?_, ?_⟩ <;> unfold Dat.leavesExact
  · rw [show cfg1.idle 0 (grid1.coords t) = false from rfl, after_0]
  · rw [show cfg1.idle 1 (grid1.coords t) = false from rfl, after_1]
  · rw [show cfg1.idle 2 (grid1.coords t) = false from rfl, after_2]
  · rw [show cfg1.idle 3 (grid1.coords t) = false from rfl, after_3]
  · rw [show cfg1.idle 4 (grid1.coords t) = false from rfl, after_4]

/-- The output's buffer is left at the scaled accumulator where the reduction ends. -/
theorem leaves_out (c : Dev nD) (t : Fin cfg1.N) (h : t.val % 12 = 11) :
    (dat W c).leavesExact 5 t = owns (c : Thread nD τ) (st1_5 t) fullShare (out W c t) := by
  unfold Dat.leavesExact; rw [live_of t h, after_5]

set_option maxHeartbeats 2000000 in
/-- The body at any point: its case is the point's position in the reduction. -/
theorem sound_body (c : Dev nD) (t : Fin cfg1.N) :
    bodyPre W c t ⊢ wp frame (wpE (defs₀ (F := F)) Variants.none c none) Set.univ (bodyAt1 t) (fun _ => bodyPost W c t) := by
  obtain ⟨e0, e1, e2, e3, e4⟩ := leaves_in W c t
  unfold bodyPre bodyPost bodyAt1
  simp only [before_0, before_1, before_2, before_3, before_4]
  rw [e0, e1, e2, e3, e4, show (dat W c).owesAt () t.succ = (dat W c).owesAt () t.castSucc from rfl,
    show (dat W c).Φ t.succ = Phi W c (t.val + 1) t.isLt from rfl, Phi_succ, Phi_castSucc]
  by_cases h0 : t.val % 12 = 0
  · rw [Dat.leavesExact_idle (dat W c) 5 t (idle_of t (by omega)) (noFlush_of t (by omega)), acc_first W c t h0]
    refine (sep_mono (Phi_any W c _ _) .rfl).trans ?_
    iintro ⟨⟨⟨Hr, HS⟩, Hg⟩, Ho, ⟨%d0, H0⟩, ⟨%d1, H1⟩, ⟨%d2, H2⟩, ⟨%d3, H3⟩, ⟨%d4, H4⟩, ⟨%d5, H5⟩⟩
    iapply (run_first c (grid1.coords t) _ _ _ _ _ _ _ _ _ _ _ _ _ _ (iblk W c 0 t) (iblk W c 1 t) (iblk W c 2 t) (iblk W c 3 t) (iblk W c 4 t)
      ((hcond0 t).mpr h0) (fun h => by have := (hcond1 t).mp h; omega) (fun h => by have := (hcond2 t).mp h; omega) _ Set.univ _)
    isplitl [H0 H1 H2 H3 H4]
    · isplitl [H0]; · iexact H0
      isplitl [H1]; · iexact H1
      isplitl [H2]; · iexact H2
      isplitl [H3]; · iexact H3
      iexact H4
    isplitl [H5]; · iexact H5
    isplitl [HS]; · iexact HS
    iintro ⟨⟨H0, H1, H2, H3, H4⟩, H5, HS⟩
    isplitl [HS Hg Hr]
    · isplitl [HS Hr]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [Phi_pos W c _ _ (fun h => h0 (by rw [h])), acc_next W c t h0]
    by_cases h2 : t.val % 12 = 11
    · rw [leaves_out W c t h2]
      unfold out
      rw [acc_next W c t h0]
      iintro ⟨⟨⟨Hr, HS⟩, Hg⟩, Ho, ⟨%d0, H0⟩, ⟨%d1, H1⟩, ⟨%d2, H2⟩, ⟨%d3, H3⟩, ⟨%d4, H4⟩, ⟨%d5, H5⟩⟩
      iapply (run_last c (grid1.coords t) _ _ _ _ _ _ _ _ _ _ _ _ _ _ (iblk W c 0 t) (iblk W c 1 t) (iblk W c 2 t) (iblk W c 3 t) (iblk W c 4 t)
        (fun h => h0 ((hcond0 t).mp h)) ((hcond1 t).mpr (by omega)) ((hcond2 t).mpr h2) _ Set.univ _)
      isplitl [H0 H1 H2 H3 H4]
      · isplitl [H0]; · iexact H0
        isplitl [H1]; · iexact H1
        isplitl [H2]; · iexact H2
        isplitl [H3]; · iexact H3
        iexact H4
      isplitl [H5]; · iexists _; iexact H5
      isplitl [HS]; · iexact HS
      iintro ⟨⟨H0, H1, H2, H3, H4⟩, H5, HS⟩
      isplitl [HS Hg Hr]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat W c) 5 t (idle_of t h2) (noFlush_of t h2)]
      iintro ⟨⟨⟨Hr, HS⟩, Hg⟩, Ho, ⟨%d0, H0⟩, ⟨%d1, H1⟩, ⟨%d2, H2⟩, ⟨%d3, H3⟩, ⟨%d4, H4⟩, ⟨%d5, H5⟩⟩
      iapply (run_middle c (grid1.coords t) _ _ _ _ _ _ _ _ _ _ _ _ _ _ (iblk W c 0 t) (iblk W c 1 t) (iblk W c 2 t) (iblk W c 3 t) (iblk W c 4 t)
        (fun h => h0 ((hcond0 t).mp h)) ((hcond1 t).mpr (by omega)) (fun h => h2 ((hcond2 t).mp h)) _ _ Set.univ _)
      isplitl [H0 H1 H2 H3 H4]
      · isplitl [H0]; · iexact H0
        isplitl [H1]; · iexact H1
        isplitl [H2]; · iexact H2
        isplitl [H3]; · iexact H3
        iexact H4
      isplitl [H5]; · iexact H5
      isplitl [HS]; · iexact HS
      iintro ⟨⟨H0, H1, H2, H3, H4⟩, H5, HS⟩
      isplitl [HS Hg Hr]
      · isplitl [HS Hr]
        · isplitl [Hr]; · iexact Hr
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s slots is the body. -/
theorem defs₀_row (t : Fin cfg1.N) :
    defs₀ (F := F) .tc cfg1.body (cfg1.bodyArgs t (cfg1.slots t)) = bodyAt1 t := by
  unfold defs₀; rw [Defs.onTc_tc]

/-- The body obligation of the matrix-product region. -/
theorem body_obligation (c : Dev nD) : BodyObligation (dat (F := F) W c) (defs₀ (F := F)) Variants.none () Set.univ := fun t => by
  rw [bigSep_W1, bigSep_W1, defs₀_row]
  exact triple_restated (sound_body W c t) rfl .rfl fun _ => .rfl

/-- What the launch hands the region is the invariant before the first point. -/
theorem hin (c : Dev nD) : Pipeline.ΦA spec1 c ⊢ (dat W c).Φ 0 := by
  rw [show (dat W c).Φ 0 = Phi W c 0 (Nat.zero_le _) from rfl]
  exact (PhiA_eq c).1

/-- After the last point the invariant gives it back, the accumulator forgotten. -/
theorem hout (c : Dev nD) : (dat W c).Φ (Fin.last cfg1.N) ⊢ Pipeline.ΦA spec1 c :=
  (show _ ⊢ _ from Phi_any W c (Fin.last cfg1.N).val (Nat.le_of_lt_succ (Fin.last cfg1.N).isLt)).trans (PhiA_eq c).2

end Cert.KernelIdeal.Mat

end
-- ==== Proof.KernelIdealRun.lean ====
/- The run of the kernel's program, at any float values: its two regions between its three stretches of host operations, from
   any memory with every counter at zero, end with every unscoped buffer at the contents the five items compute one after the
   other and every counter back at zero. -/
module

public import proofs.«01_k».proof.Proof.KernelIdealMat
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- After the activations are reshaped to rows. -/
def U1 (c : Dev nD) : Valuation τ sig (Elt F) := StableHlo.after hostOps0 (fun b => m (c, b))
/-- After the quantising region. -/
def U2 (c : Dev nD) : Valuation τ sig (Elt F) := Pipeline.afterRegion (Quant.dat (U1 m) c) (U1 m c)
/-- After the weights' scales and the bias are reshaped to rows. -/
def U3 (c : Dev nD) : Valuation τ sig (Elt F) := StableHlo.after hostOps1 (U2 m c)
/-- After the matrix-product region. -/
def U4 (c : Dev nD) : Valuation τ sig (Elt F) := Pipeline.afterRegion (Mat.dat (U3 m) c) (U3 m c)
/-- After the results are reshaped. -/
def U5 (c : Dev nD) : Valuation τ sig (Elt F) := StableHlo.after hostOps2 (U4 m c)

/-- The host reshapes before the first region change only what they write. -/
theorem U1_of (c : Dev nD) (r : Ref sig .tc) (h : r ∉ hostOps0_W) : U1 m c r = m (c, Proc.devRef .tc r) :=
  StableHlo.after_of_writes_sub hostOps0 _ hostOps0_writes h
/-- The first region changes only its outputs. -/
theorem U2_of (c : Dev nD) (r : Ref sig .tc) (h : ∀ w, Pipeline.arrRef cfg0.spec w = r → (cfg0.win w).isOut = false) : U2 m c r = U1 m c r :=
  Pipeline.afterRegion_keeps (Quant.dat (U1 m) c) (U1 m c) winFacts0.arr_inj (Quant.A_eq (U1 m) c) r h
/-- The host reshapes between the regions change only what they write. -/
theorem U3_of (c : Dev nD) (r : Ref sig .tc) (h : r ∉ hostOps1_W) : U3 m c r = U2 m c r :=
  StableHlo.after_of_writes_sub hostOps1 _ hostOps1_writes h
/-- The second region changes only its output. -/
theorem U4_of (c : Dev nD) (r : Ref sig .tc) (h : ∀ w, Pipeline.arrRef cfg1.spec w = r → (cfg1.win w).isOut = false) : U4 m c r = U3 m c r :=
  Pipeline.afterRegion_keeps (Mat.dat (U3 m) c) (U3 m c) winFacts1.arr_inj (Mat.A_eq (U3 m) c) r h
/-- The last host reshapes change only what they write. -/
theorem U5_of (c : Dev nD) (r : Ref sig .tc) (h : r ∉ hostOps2_W) : U5 m c r = U4 m c r :=
  StableHlo.after_of_writes_sub hostOps2 _ hostOps2_writes h

/-- A region's output window's array, after the region. -/
theorem U2_arr (c : Dev nD) (w : Fin cfg0.W) : U2 m c (Proc.devRef .tc (Pipeline.arrRef spec0 w)) = (Quant.dat (U1 m) c).arrAt w cfg0.N :=
  Pipeline.afterRegion_arr (Quant.dat (U1 m) c) (U1 m c) winFacts0.arr_inj w
/-- The second region's arrays end as its windows leave them. -/
theorem U4_arr (c : Dev nD) (w : Fin cfg1.W) : U4 m c (Proc.devRef .tc (Pipeline.arrRef spec1 w)) = (Mat.dat (U3 m) c).arrAt w cfg1.N :=
  Pipeline.afterRegion_arr (Mat.dat (U3 m) c) (U3 m c) winFacts1.arr_inj w

/-- No item writes an argument. -/
theorem U5_arg (c : Dev nD) (r : Ref sig .tc) (h0 : r ∉ hostOps0_W) (h1 : ∀ w, Pipeline.arrRef cfg0.spec w = r → (cfg0.win w).isOut = false)
    (h2 : r ∉ hostOps1_W) (h3 : ∀ w, Pipeline.arrRef cfg1.spec w = r → (cfg1.win w).isOut = false) (h4 : r ∉ hostOps2_W) :
    U5 m c r = m (c, Proc.devRef .tc r) :=
  (U5_of m c r h4).trans <| (U4_of m c r h3).trans <| (U3_of m c r h2).trans <| (U2_of m c r h1).trans (U1_of m c r h0)

/-! ## The items as segments -/

/-- The staging cells' tokens: one per counter of a TensorCore. -/
def L (g : GSem nD τ sig) : Finset Unit := if g.1.2 = .tc then {()} else ∅
/-- Every counter at one level: no region owes anything. -/
def lv (_ : GSem nD τ sig) (_ : Unit) : ℕ := 0

/-- The one level is among the levels of every semaphore of a core. -/
theorem L_tc (c : Dev nD) (sm : SemLoc sig) : () ∈ L ((c : Thread nD τ), sm) := by
  unfold L; rw [if_pos rfl]; exact Finset.mem_singleton_self _

/-- What rides along beside the buffers: the core owing nothing and the generator register at some state. -/
abbrev E (c : Dev nD) : sProp 𝕄 := iprop((∃ Wd, owes (c : Thread nD τ) (0 : CellTallies nD τ sig Unit) Wd) ∗ (∃ r, prngReg c r) ∗ emp)

/-- A stretch of host operations over the unscoped buffers. -/
def hostSeg (ops : List (HloOp τ sig (Elt F))) (hs : ops.Forall fun op => op.bufs ⊆ StableHlo.tcRefs τ sig)
    (hf : ops.Forall fun op => op.fresh = ∅) (V : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hs) op h))
    (fun op h => (List.forall_iff_forall_mem.mp hf) op h) V E

/-- The two regions' proof data. -/
def pdats : (p : Fin 2) → (c : Dev nD) → Dat τ (Elt F) Unit ℕ (UR sig nD τ) ℕ (cfgs p) c
  | 0 => Quant.dat (U1 m)
  | 1 => Mat.dat (U3 m)

/-- No region owes, so the levels order its waits. -/
theorem cut (p : Fin 2) : Pipeline.LevelCut (pcfgs (F := F)) adm () L lv p (fun _ => 0) (fun _ : Dev nD => 0) where
  hι c w s := L_tc c _
  hιb c w s := le_refl 0
  hD c g i h := absurd h (lt_irrefl 0)

set_option backward.isDefEq.respectTransparency.types false in
/-- The quantising region's record. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Quant.body_obligation (U1 m) c).loose) (fun _ _ => rfl) (fun _ => rfl)
    (fun c => (Quant.dat (U1 m) c).share_full fun _ => rfl)
    (fun c => .rfl) (fun c => .rfl) (fun _ => 0) (cut 0) (fun _ => iprop(emp)) (U1 m)
    (fun c w => Quant.A_eq (U1 m) c w)

set_option backward.isDefEq.respectTransparency.types false in
/-- The matrix-product region's record. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Mat.body_obligation (U3 m) c).loose) (fun _ _ => rfl) (fun _ => rfl)
    (fun c => (Mat.dat (U3 m) c).share_full fun _ => rfl)
    (fun c => Mat.hin (U3 m) c) (fun c => Mat.hout (U3 m) c) (fun _ => 0) (cut 1) (fun _ => iprop(emp)) (U3 m)
    (fun c w => Mat.A_eq (U3 m) c w)

/-- @main's five items. -/
abbrev items (_ : Dev nD) : List (Seg (pcfgs (F := F)) adm (pdats m) () defs₀ Variants.none L lv) :=
  [.host (hostSeg hostOps0 hostOps0_sub hostOps0_fresh (fun c b => m (c, b))), .region (R0 m),
   .host (hostSeg hostOps1 hostOps1_sub hostOps1_fresh (U2 m)), .region (R1 m),
   .host (hostSeg hostOps2 hostOps2_sub hostOps2_fresh (U4 m))]

/-- The regions' arrays are unscoped buffers. -/
theorem arrs_sub (p : Fin 2) : Pipeline.arrRefs ((pcfgs (F := F)) p).spec ⊆ Pipeline.ucRefs τ sig :=
  Pipeline.arrRefs_sub_ucRefs ((pcfgs (F := F)) p).spec (match p with | 0 => winFacts0.arr_unscoped | 1 => winFacts1.arr_unscoped)

set_option backward.isDefEq.respectTransparency.types false

/-- What is held before the first region is what the region wants. -/
theorem hpre0 (c : Dev nD) : iprop(StableHlo.held (c : Thread nD τ) (Pipeline.ucRefs τ sig) (U1 m c) ∗ E c) ⊢ (R0 m).pre c :=
  RegionSeg.ofHeldIn_pre (arrs_sub 0) (D := fun _ => 0) (X := fun c => iprop(∃ r, prngReg c r)) (Y := fun c => iprop(∃ r, prngReg c r)) (R := fun _ => iprop(emp)) (W := U1 m) c
/-- What the first region gives back is held after it. -/
theorem hpost0 (c : Dev nD) : (R0 m).post c ⊢ iprop(StableHlo.held (c : Thread nD τ) (Pipeline.ucRefs τ sig) (U2 m c) ∗ E c) :=
  RegionSeg.ofHeldIn_post (arrs_sub 0) c
/-- What is held before the second region is what the region wants. -/
theorem hpre1 (c : Dev nD) : iprop(StableHlo.held (c : Thread nD τ) (Pipeline.ucRefs τ sig) (U3 m c) ∗ E c) ⊢ (R1 m).pre c :=
  RegionSeg.ofHeldIn_pre (arrs_sub 1) (D := fun _ => 0) (X := fun c => iprop(∃ r, prngReg c r)) (Y := fun c => iprop(∃ r, prngReg c r)) (R := fun _ => iprop(emp)) (W := U3 m) c
/-- What the second region gives back is held after it. -/
theorem hpost1 (c : Dev nD) : (R1 m).post c ⊢ iprop(StableHlo.held (c : Thread nD τ) (Pipeline.ucRefs τ sig) (U4 m c) ∗ E c) :=
  RegionSeg.ofHeldIn_post (arrs_sub 1) c

/-! ## The run -/

set_option backward.isDefEq.respectTransparency.types false in
/-- Every weakly fair execution of @main from memory `m` with every counter at zero terminates, with every unscoped buffer at
    `U5 m` and every counter at zero. -/
theorem run : θ_run defs (onTc (τ := τ) (main (F := F))) ⟨m, fun _ => 0, ρ⟩ (fun r =>
    (∀ c : Dev nD, ∀ b ∈ Pipeline.ucRefs τ sig, r.2.mem (c, b) = U5 m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (fun _ => 0)
    (fun g h => by unfold L; rw [if_neg h]) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ E c))
    (Tₙ := fun c => StableHlo.held (c : Thread nD τ) (Pipeline.ucRefs τ sig) (U5 m c))
    (hch := fun c => ⟨.rfl, hpre0 m c, hpost0 m c, hpre1 m c, hpost1 m c, sep_mono .rfl (by iintro ⟨H, -⟩; iexact H)⟩)
    (hinit := ?_) (QY := fun c s => ∀ b ∈ Pipeline.ucRefs τ sig, s.mem (c, b) = U5 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (fun b => m (c, b)) from
      Pipeline.unscopedBufs_held (Ix := Unit) (Name := ℕ) (U := UR sig nD τ) (Lvl := ℕ) c (fun b => m (c, b))]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    imodintro
    iapply (pointsTo_read_all (Pipeline.ucRefs τ sig) (fun b => ((c : Thread nD τ).1, b)) (U5 m c) s')
    isplitl [Hh] <;> iassumption

/-- A TensorCore reference that is not scoped is read off the run. -/
theorem mem_ucRefs (r : Ref sig .tc) (h : r.isScoped = false) : (Proc.devRef .tc r : DevRef τ sig) ∈ Pipeline.ucRefs τ sig :=
  Finset.mem_filter.mpr ⟨StableHlo.devRef_mem_tcRefs r, by simpa using h⟩

/-- The run leaves the four arguments as launched, the three results at `U5 m`, and every counter at zero. -/
theorem run_post : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v5) = U5 m c main_v5
      ∧ r.2.mem ((c.tc : Thread nD τ).loc main_v6) = U5 m c main_v6
      ∧ r.2.mem ((c.tc : Thread nD τ).loc main_v7) = U5 m c main_v7)
      ∧ r.2.sem = fun _ => 0) :=
  (θ_run defs _ _).mono (fun r h => ⟨fun c =>
    ⟨⟨(h.1 c _ (mem_ucRefs main_arg0 (by decide))).trans (U5_arg m c main_arg0 (by decide) (by decide) (by decide) (by decide) (by decide)),
      (h.1 c _ (mem_ucRefs main_arg1 (by decide))).trans (U5_arg m c main_arg1 (by decide) (by decide) (by decide) (by decide) (by decide)),
      (h.1 c _ (mem_ucRefs main_arg2 (by decide))).trans (U5_arg m c main_arg2 (by decide) (by decide) (by decide) (by decide) (by decide)),
      (h.1 c _ (mem_ucRefs main_arg3 (by decide))).trans (U5_arg m c main_arg3 (by decide) (by decide) (by decide) (by decide) (by decide))⟩,
     h.1 c _ (mem_ucRefs main_v5 (by decide)), h.1 c _ (mem_ucRefs main_v6 (by decide)), h.1 c _ (mem_ucRefs main_v7 (by decide))⟩, h.2⟩) (run m ρ)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run_post m ρ)

end Cert.KernelIdeal.Run

end
-- ==== Proof.Scalar.lean ====
/- One row's scale, as the kernel computes it and as the reference does, on extended reals. From the row's largest magnitude `a`
   the kernel counts the powers of two at or below `a` times the f32 nearest 1/448, the reference takes the floor of a base-two
   logarithm; both then form a power of two, the kernel by building an f32's bits, the reference by `exp2`. `exponent_agree` and
   `pow_agree` say that both give the same. -/
module

public import Idealize.ShloMosaic.PureOps.Ideal.Laws
public import Mathlib.Analysis.SpecialFunctions.Pow.Real

@[expose] public section

set_option maxRecDepth 16384

noncomputable section

namespace Cert.Scalar

open Idealize.ShloMosaic

section Defs

variable {F : FTy → Type} [FloatOps F]

/-- The bits the kernel builds for two to the power `e`: the exponent field `e + 127` clamped to 0 below and 255 above. -/
def word (e : BitVec 32) : BitVec 32 :=
  Scalar.select (IntOp.cmpi .sle (IntOp.addi e 127#32) 0#32) 0#32
    (IntOp.shli .vector (Scalar.select (IntOp.cmpi .sge (IntOp.addi e 127#32) 255#32) 255#32 (IntOp.addi e 127#32)) 23#32)

/-- The kernel's two to the power `e`. -/
def kerPow (e : BitVec 32) : F .f32 := FloatOps.ofBits .f32 (word e)

/-- The kernel's lane `l` of the count at `v`: one when `l` is positive and the float of exponent field `l` is at most `v`. -/
def lane (v : F .f32) (l : BitVec 32) : BitVec 32 :=
  Scalar.select (IntOp.andi (IntOp.cmpi .sgt l 0#32) (FloatOps.cmpf .oge v (FloatOps.ofBits .f32 (IntOp.shli .vector l 23#32)))) 1#32 0#32

/-- The kernel's count at `v`. -/
def count (v : F .f32) : BitVec 32 := (Finset.univ : Finset (Fin 256)).fold IntOp.addi 0#32 fun l => lane v (BitVec.ofNat 32 l.val)

/-- A row's largest magnitude times the f32 nearest 1/448. -/
def scaled (a : F .f32) : F .f32 := FloatOps.mulf a (Scalar.ofBits .f32 0x3B124925#32)

/-- The kernel's exponent of a row of largest magnitude `a`, from the count `n` of `scaled a`. -/
def kerExp (a : F .f32) (n : BitVec 32) : BitVec 32 :=
  Scalar.select (FloatOps.cmpf .oeq a (Scalar.ofBits .f32 0x00000000#32)) 0#32
    (Scalar.select (IntOp.ori (IntOp.cmpi .eq n 0#32) (IntOp.cmpi .eq n 255#32)) 0#32 (IntOp.subi n 126#32))

/-- The reference's exponent of that row, `lg` being its logarithm of two. -/
def refExp (lg a : F .f32) : F .f32 :=
  Scalar.select (FloatOps.cmpf .oeq a (Scalar.ofBits .f32 0x00000000#32)) (Scalar.ofBits .f32 0x00000000#32)
    (Scalar.select (IntOp.andi (FloatOps.cmpf .oge (scaled a) (Scalar.ofBits .f32 0x00800000#32)) (FloatOps.cmpf .olt (scaled a) (Scalar.ofBits .f32 0x7F800000#32)))
      (FloatOps.minimumf (FloatOps.addf (FloatOps.floor (FloatOps.divf (FloatOps.log (scaled a)) lg)) (Scalar.ofBits .f32 0x3F800000#32)) (Scalar.ofBits .f32 0x43000000#32))
      (Scalar.ofBits .f32 0x00000000#32))

/-- The reference's two to the power `e`. -/
def refPow (e : F .f32) : F .f32 :=
  Scalar.select (FloatOps.cmpf .ogt e (Scalar.ofBits .f32 0x42FE0000#32)) (Scalar.ofBits .f32 0x7F800000#32)
    (Scalar.select (FloatOps.cmpf .olt e (Scalar.ofBits .f32 0xC2FC0000#32)) (Scalar.ofBits .f32 0x00000000#32) (FloatOps.exp2 e))

/-- The clip to ±448 both sides apply before the cast. -/
def clip (v : F .f32) : F .f32 := FloatOps.minimumf (Scalar.ofBits .f32 0x43E00000#32) (FloatOps.maximumf (Scalar.ofBits .f32 0xC3E00000#32) v)

/-- The kernel's code of the element `x` in a row of exponent `e`. -/
def kerCode (x : F .bf16) (e : BitVec 32) : F .fp8e4m3 :=
  FloatOps.truncf .fp8e4m3 (by decide) (clip (FloatOps.mulf (FloatOps.extf .f32 (by decide) x) (kerPow (IntOp.subi 0#32 e))))

/-- The reference's code of the element `x` in a row of exponent `e`. -/
def refCode (x : F .bf16) (e : F .f32) : F .fp8e4m3 :=
  FloatOps.truncf .fp8e4m3 (by decide)
    (clip (FloatOps.mulf (FloatOps.extf .f32 (by decide) x) (refPow (FloatOps.subf (Scalar.ofBits .f32 0x00000000#32) e))))

/-- The largest magnitude of a row of `n` elements, on extended reals. -/
def rowMax {n : ℕ} (f : Fin n → EReal) : EReal :=
  (Finset.univ : Finset (Fin n)).fold max (Ideal.ofBits .f32 0xFF800000#32) fun k => (FloatOps.absf (F := Ideal) (φ := .f32) (f k) : EReal)

end Defs

/-! ## The constants -/

/-- Zero. -/
theorem c_zero : Ideal.ofBits .f32 0x00000000#32 = 0 := Ideal.ofBits_zero_f32
/-- Infinity. -/
theorem c_inf : Ideal.ofBits .f32 0x7F800000#32 = ⊤ := by simp [Ideal.ofBits, Ideal.ieee]
/-- One. -/
theorem c_one : Ideal.ofBits .f32 0x3F800000#32 = ((1 : ℝ) : EReal) := by
  simp [Ideal.ofBits, Ideal.ieee, -EReal.coe_mul]; try norm_num
/-- 127. -/
theorem c_127 : Ideal.ofBits .f32 0x42FE0000#32 = ((127 : ℝ) : EReal) := by
  simp [Ideal.ofBits, Ideal.ieee, -EReal.coe_mul]; try norm_num
/-- -126. -/
theorem c_m126 : Ideal.ofBits .f32 0xC2FC0000#32 = ((-126 : ℝ) : EReal) := by
  simp [Ideal.ofBits, Ideal.ieee, -EReal.coe_mul]; try norm_num
/-- 128. -/
theorem c_128 : Ideal.ofBits .f32 0x43000000#32 = ((128 : ℝ) : EReal) := by
  simp [Ideal.ofBits, Ideal.ieee, -EReal.coe_mul]; try norm_num

/-- The extended real whose f32 has exponent field `l` and no fraction bit, for a field from 1 to 255. -/
def fieldVal (l : ℕ) : EReal := if l = 255 then ⊤ else (((2 : ℝ) ^ ((l : ℤ) - 127) : ℝ) : EReal)

/-- The shift of a lane's number by 23. -/
theorem shl_bits : ∀ l : Fin 256, IntOp.shli .vector (BitVec.ofNat 32 l.val) 23#32 = BitVec.ofNat 32 l.val <<< 23 := by decide +kernel
/-- The shifted number has the lane as its exponent field, -/
theorem shl_field : ∀ l : Fin 256, ((BitVec.ofNat 32 l.val <<< 23).extractLsb' 23 8).toNat = l.val := by decide +kernel
/-- no fraction bits, -/
theorem shl_frac : ∀ l : Fin 256, ((BitVec.ofNat 32 l.val <<< 23).extractLsb' 0 23).toNat = 0 := by decide +kernel
/-- and no sign. -/
theorem shl_sign : ∀ l : Fin 256, ((BitVec.ofNat 32 l.val <<< 23).extractLsb' (8 + 23) 1 == 1#1) = false := by decide +kernel

/-- The kernel's shifted lane number, read as a float. -/
theorem ofBits_shl (l : Fin 256) (h : 1 ≤ l.val) : Ideal.ofBits .f32 (IntOp.shli .vector (BitVec.ofNat 32 l.val) 23#32) = fieldVal l.val := by
  rw [shl_bits]
  show Ideal.ieee 8 23 _ = _
  unfold Ideal.ieee
  simp only [shl_field, shl_frac, shl_sign]
  unfold fieldVal
  have h0 : l.val ≠ 0 := by omega
  by_cases h255 : l.val = 255
  · simp [h255]
  · rw [if_neg (by simpa using h255), if_neg h0, if_neg h255]
    congr 1
    have e : (l.val : ℤ) - 127 = 23 + ((l.val : ℤ) - (2 ^ (8 - 1) - 1) - (23 : ℕ)) := by norm_num
    rw [e, zpow_add₀ (by norm_num : (2 : ℝ) ≠ 0)]
    norm_num

/-- Lane 0 read as a float is zero. -/
theorem ofBits_shl_zero : Ideal.ofBits .f32 (IntOp.shli .vector (BitVec.ofNat 32 0) 23#32) = 0 := by
  rw [show IntOp.shli .vector (BitVec.ofNat 32 0) 23#32 = 0x00000000#32 from by decide +kernel]; exact c_zero

/-! ## The count is a threshold -/

/-- Whether a lane is positive. -/
theorem sgt_zero : ∀ l : Fin 256, IntOp.cmpi .sgt (BitVec.ofNat 32 l.val) 0#32 = BitVec.ofBool (decide (1 ≤ l.val)) := by decide +kernel

/-- The conjunction of two truth bits. -/
theorem and_ofBool (p q : Bool) : IntOp.andi (BitVec.ofBool p) (BitVec.ofBool q) = BitVec.ofBool (p && q) := by cases p <;> cases q <;> decide
/-- A selection by a truth bit. -/
theorem select_ofBool {α : Type} (p : Prop) [Decidable p] (a b : α) : Scalar.select (BitVec.ofBool (decide p)) a b = if p then a else b := by
  by_cases h : p <;> simp [Scalar.select, h]

/-- A lane counts when it is positive and its float is at most `v`. -/
theorem lane_eq (v : EReal) (l : Fin 256) : lane (F := Ideal) v (BitVec.ofNat 32 l.val) = if 1 ≤ l.val ∧ fieldVal l.val ≤ v then 1#32 else 0#32 := by
  unfold lane
  rw [sgt_zero, Ideal.cmpf_def, Ideal.ofBits_def]
  by_cases h : 1 ≤ l.val
  · rw [ofBits_shl l h]
    simp only [Ideal.cmp, and_ofBool, ← Bool.decide_and, select_ofBool]
  · simp only [Ideal.cmp, and_ofBool, ← Bool.decide_and, select_ofBool]
    rw [if_neg (fun hh => h hh.1), if_neg (fun hh => h hh.1)]

/-- The number of lanes from 1 to `m` is `m`. -/
theorem fold_threshold : ∀ m : Fin 256, ((Finset.univ : Finset (Fin 256)).fold IntOp.addi 0#32 fun l => if 1 ≤ l.val ∧ l.val ≤ m.val then 1#32 else 0#32)
    = BitVec.ofNat 32 m.val := by decide +kernel

/-- When the fields at or below `v` are those up to `m`, the count at `v` is `m`. -/
theorem count_eq (v : EReal) (m : Fin 256) (h : ∀ l : Fin 256, 1 ≤ l.val → (fieldVal l.val ≤ v ↔ l.val ≤ m.val)) :
    count (F := Ideal) v = BitVec.ofNat 32 m.val := by
  unfold count
  rw [← fold_threshold m]
  congr 1
  funext l
  rw [lane_eq]
  by_cases h1 : 1 ≤ l.val
  · simp only [h1, h l h1, true_and]
  · rw [if_neg (fun hh => h1 hh.1), if_neg (fun hh => h1 hh.1)]

/-! ## The exponents agree -/

/-- A power of two is at most `r` when its exponent is at most the floor of `r`'s logarithm over that of two. -/
theorem zpow_le_iff (x : ℤ) {r : ℝ} (hr : 0 < r) : (2 : ℝ) ^ x ≤ r ↔ x ≤ ⌊Real.log r / Real.log 2⌋ := by
  rw [Int.le_floor, le_div_iff₀ (Real.log_pos (by norm_num)), ← Real.log_zpow, Real.log_le_log_iff (by positivity) hr]

/-- The float of field 1 is the least. -/
theorem fieldVal_mono {l : ℕ} (h1 : 1 ≤ l) (h2 : l ≤ 255) : fieldVal 1 ≤ fieldVal l := by
  unfold fieldVal
  rw [if_neg (by decide)]
  split
  · exact le_top
  · exact EReal.coe_le_coe_iff.2 (zpow_le_zpow_right₀ (by norm_num) (by omega))

/-- The least normal f32 is the float of field 1. -/
theorem c_min : Ideal.ofBits .f32 0x00800000#32 = fieldVal 1 := by
  rw [show (0x00800000#32 : BitVec 32) = IntOp.shli .vector (BitVec.ofNat 32 (1 : Fin 256).val) 23#32 from by decide +kernel, ofBits_shl 1 (by decide)]; rfl

/-- A count of 0 is one of the two excluded, -/
theorem word_zero : IntOp.ori (IntOp.cmpi .eq (BitVec.ofNat 32 0) 0#32) (IntOp.cmpi .eq (BitVec.ofNat 32 0) 255#32) = 1#1 := by decide +kernel
/-- so is a count of 255, -/
theorem word_top : IntOp.ori (IntOp.cmpi .eq (BitVec.ofNat 32 255) 0#32) (IntOp.cmpi .eq (BitVec.ofNat 32 255) 255#32) = 1#1 := by decide +kernel
/-- and no count between is. -/
theorem word_mid : ∀ m : Fin 255, 1 ≤ m.val → IntOp.ori (IntOp.cmpi .eq (BitVec.ofNat 32 m.val) 0#32) (IntOp.cmpi .eq (BitVec.ofNat 32 m.val) 255#32) = 0#1 := by decide +kernel
/-- The exponent of such a count. -/
theorem word_sub : ∀ m : Fin 255, IntOp.subi (BitVec.ofNat 32 m.val) 126#32 = BitVec.ofInt 32 ((m.val : ℤ) - 126) := by decide +kernel

/-- A selection by a true bit. -/
theorem select_one {α : Type} (a b : α) : Scalar.select 1#1 a b = a := rfl
/-- A selection by a false bit. -/
theorem select_zero {α : Type} (a b : α) : Scalar.select 0#1 a b = b := rfl
/-- A selection between equals. -/
theorem select_same {α : Type} (c : BitVec 1) (a : α) : Scalar.select c a a = a := by unfold Scalar.select; split <;> rfl

/-- The kernel's exponent and the reference's are one integer, from -125 to 128. -/
theorem exponent_agree (a lg : EReal) (hlg : lg = ((Real.log 2 : ℝ) : EReal)) :
    ∃ e : ℤ, -125 ≤ e ∧ e ≤ 128 ∧ kerExp (F := Ideal) a (count (F := Ideal) (scaled (F := Ideal) a)) = BitVec.ofInt 32 e
      ∧ refExp (F := Ideal) lg a = ((e : ℝ) : EReal) := by
  unfold kerExp refExp
  generalize hv : scaled (F := Ideal) a = v
  simp only [Scalar.ofBits, Ideal.ofBits_def, Ideal.cmpf_def, c_zero, c_inf, c_min, c_one, c_128]
  have small : ∀ w : EReal, (w < fieldVal 1 ∨ w = ⊤) → Scalar.select (IntOp.andi (Ideal.cmp .oge w (fieldVal 1)) (Ideal.cmp .olt w ⊤))
      (FloatOps.minimumf (F := Ideal) (φ := .f32) (FloatOps.addf (F := Ideal) (φ := .f32) (FloatOps.floor (F := Ideal) (φ := .f32) (FloatOps.divf (F := Ideal) (φ := .f32) (FloatOps.log (F := Ideal) (φ := .f32) w) lg)) ((1 : ℝ) : EReal)) ((128 : ℝ) : EReal)) (0 : EReal) = 0 := by
    intro w hw
    simp only [Ideal.cmp, and_ofBool, ← Bool.decide_and, select_ofBool]
    rw [if_neg]
    rintro ⟨h1, h2⟩
    rcases hw with hw | hw
    · exact absurd h1 (not_le.2 hw)
    · exact absurd hw h2.ne
  by_cases hlow : v < fieldVal 1
  · refine ⟨0, by norm_num, by norm_num, ?_, ?_⟩
    · rw [count_eq v 0 (fun l hl => ⟨fun h => absurd (lt_of_le_of_lt (le_trans (fieldVal_mono hl (by omega)) h) hlow) (lt_irrefl _), fun h => absurd h (by simp; omega)⟩)]
      rw [show ((0 : Fin 256).val) = 0 from rfl, word_zero, select_one, select_same]; rfl
    · rw [small v (.inl hlow), select_same]; norm_num
  by_cases htop : v = ⊤
  · refine ⟨0, by norm_num, by norm_num, ?_, ?_⟩
    · rw [count_eq v 255 (fun l hl => ⟨fun _ => by show l.val ≤ 255; omega, fun _ => by rw [htop]; exact le_top⟩)]
      rw [show ((255 : Fin 256).val) = 255 from rfl, word_top, select_one, select_same]; rfl
    · rw [small v (.inr htop), select_same]; norm_num
  have hge : fieldVal 1 ≤ v := not_lt.1 hlow
  have hf1 : fieldVal 1 = (((2 : ℝ) ^ (-126 : ℤ) : ℝ) : EReal) := by unfold fieldVal; rw [if_neg (by decide)]; norm_num
  have hpos : (0 : EReal) < fieldVal 1 := by rw [hf1]; exact EReal.coe_pos.2 (by positivity)
  have hbot : v ≠ ⊥ := by rintro rfl; exact absurd (lt_of_lt_of_le hpos hge) (not_lt.2 bot_le)
  lift v to ℝ using ⟨htop, hbot⟩ with r
  have hr2 : (2 : ℝ) ^ (-126 : ℤ) ≤ r := by rw [hf1] at hge; exact EReal.coe_le_coe_iff.1 hge
  have hr : 0 < r := lt_of_lt_of_le (by positivity) hr2
  have hk : -126 ≤ ⌊Real.log r / Real.log 2⌋ := (zpow_le_iff _ hr).1 hr2
  have ha : a ≠ 0 := by
    rintro rfl
    have : scaled (F := Ideal) (0 : EReal) = 0 := by unfold scaled; rw [Ideal.mulf_def]; exact zero_mul _
    rw [this] at hv
    rw [← hv] at hge
    exact absurd (lt_of_lt_of_le hpos hge) (lt_irrefl _)
  have hcmp : Ideal.cmp .oeq a 0 = 0#1 := by simp [Ideal.cmp, ha]
  obtain ⟨m, hm⟩ : ∃ m : Fin 255, (m.val : ℤ) = min (⌊Real.log r / Real.log 2⌋ + 127) 254 :=
    ⟨⟨(min (⌊Real.log r / Real.log 2⌋ + 127) 254).toNat, by omega⟩, by show ((min _ _ : ℤ).toNat : ℤ) = _; omega⟩
  have hm1 : 1 ≤ m.val := by omega
  refine ⟨(m.val : ℤ) - 126, by omega, by omega, ?_, ?_⟩
  · rw [hcmp, select_zero, count_eq (r : EReal) ⟨m.val, by omega⟩, word_mid m hm1, select_zero, word_sub]
    intro l hl
    show _ ↔ l.val ≤ m.val
    unfold fieldVal
    by_cases h255 : l.val = 255
    · rw [if_pos h255]
      exact ⟨fun h => absurd h (not_le.2 (EReal.coe_lt_top r)), fun h => by omega⟩
    · rw [if_neg h255, EReal.coe_le_coe_iff, zpow_le_iff _ hr]
      omega
  · rw [hcmp, select_zero]
    simp only [Ideal.cmp, and_ofBool, ← Bool.decide_and, select_ofBool]
    rw [if_pos ⟨hge, EReal.coe_lt_top r⟩]
    have hlog : FloatOps.log (F := Ideal) (φ := .f32) (r : EReal) = ((Real.log r : ℝ) : EReal) := by
      show (if r ≤ 0 then (⊥ : EReal) else ((Real.log r : ℝ) : EReal)) = _
      rw [if_neg hr.not_ge]
    have h2 : Real.log 2 ≠ 0 := (Real.log_pos (by norm_num)).ne'
    rw [hlog, hlg]
    have hdiv : FloatOps.divf (F := Ideal) (φ := .f32) ((Real.log r : ℝ) : EReal) ((Real.log 2 : ℝ) : EReal) = ((Real.log r / Real.log 2 : ℝ) : EReal) := by
      show Ideal.div _ _ = _
      rw [Ideal.div_coe h2, ← EReal.coe_mul, mul_one_div]
    rw [hdiv]
    show min (((⌊Real.log r / Real.log 2⌋ : ℝ) : EReal) + ((1 : ℝ) : EReal)) ((128 : ℝ) : EReal) = _
    rw [← EReal.coe_add, ← EReal.coe_strictMono.monotone.map_min]
    congr 1
    rw [hm]
    push_cast
    rw [← min_sub_sub_right]
    norm_num
    congr 1
    ring

/-! ## The powers agree -/

/-- The bits built for an exponent from -127 to 128. -/
theorem word_field : ∀ l : Fin 256, word (BitVec.ofInt 32 ((l.val : ℤ) - 127)) = IntOp.shli .vector (BitVec.ofNat 32 l.val) 23#32 := by decide +kernel
/-- The bits built for the exponent -128. -/
theorem word_low : word (BitVec.ofInt 32 (-128)) = 0#32 := by decide +kernel

/-- Both sides' two to the power `e`, for an integer `e` from -128 to 128. -/
theorem pow_agree (e : ℤ) (h1 : -128 ≤ e) (h2 : e ≤ 128) : kerPow (F := Ideal) (BitVec.ofInt 32 e) = refPow (F := Ideal) ((e : ℝ) : EReal) := by
  unfold kerPow refPow
  simp only [Scalar.ofBits, Ideal.ofBits_def, Ideal.cmpf_def, c_zero, c_inf, c_127, c_m126, Ideal.cmp, select_ofBool, EReal.coe_lt_coe_iff]
  have e127 : ((127 : ℝ) < (e : ℝ)) ↔ 127 < e := by exact_mod_cast Iff.rfl
  have e126 : ((e : ℝ) < (-126 : ℝ)) ↔ e < -126 := by exact_mod_cast Iff.rfl
  simp only [e127, e126]
  rcases eq_or_lt_of_le h1 with rfl | h1
  · rw [word_low, if_neg (by decide), if_pos (by decide)]; exact c_zero
  obtain ⟨l, hl⟩ : ∃ l : Fin 256, e = (l.val : ℤ) - 127 := ⟨⟨(e + 127).toNat, by omega⟩, by show e = ((e + 127).toNat : ℤ) - 127; omega⟩
  rw [hl, word_field, ← hl]
  by_cases hl0 : l.val = 0
  · rw [if_neg (by omega), if_pos (by omega), hl0]; exact ofBits_shl_zero
  rw [ofBits_shl l (by omega), if_neg (show ¬ e < -126 by omega)]
  unfold fieldVal
  by_cases h255 : l.val = 255
  · rw [if_pos h255, if_pos (by omega)]
  · rw [if_neg h255, if_neg (by omega)]
    show _ = Ideal.exp2 ((e : ℝ) : EReal)
    rw [← hl]
    show _ = (((2 : ℝ) ^ ((e : ℤ) : ℝ) : ℝ) : EReal)
    rw [Real.rpow_intCast]

/-- The kernel's scale and every code of a row of largest magnitude `a` are the reference's. -/
theorem row_agree (a lg : EReal) (hlg : lg = ((Real.log 2 : ℝ) : EReal)) :
    kerPow (F := Ideal) (kerExp (F := Ideal) a (count (F := Ideal) (scaled (F := Ideal) a))) = refPow (F := Ideal) (refExp (F := Ideal) lg a)
      ∧ ∀ x : EReal, kerCode (F := Ideal) x (kerExp (F := Ideal) a (count (F := Ideal) (scaled (F := Ideal) a))) = refCode (F := Ideal) x (refExp (F := Ideal) lg a) := by
  obtain ⟨e, h1, h2, hK, hR⟩ := exponent_agree a lg hlg
  rw [hK, hR]
  refine ⟨pow_agree e (by omega) h2, fun x => ?_⟩
  unfold kerCode refCode
  have hs : IntOp.subi 0#32 (BitVec.ofInt 32 e) = BitVec.ofInt 32 (-e) := by
    show 0#32 - BitVec.ofInt 32 e = _
    rw [BitVec.ofInt_neg, BitVec.zero_sub]
  have hn : FloatOps.subf (F := Ideal) (φ := .f32) (Scalar.ofBits .f32 0x00000000#32) ((e : ℝ) : EReal) = (((-e : ℤ) : ℝ) : EReal) := by
    show Ideal.ofBits .f32 0x00000000#32 - ((e : ℝ) : EReal) = _
    rw [c_zero, zero_sub, ← EReal.coe_neg]
    push_cast; rfl
  rw [hs, hn, pow_agree (-e) (by omega) (by omega)]

end Cert.Scalar

end
-- ==== Proof.KernelIdealRead.lean ====
/- What the kernel's two bodies compute from the blocks they load, entry by entry: the row's exponent, scale and codes of the
   quantising body, and the products and the epilogue of the matrix product's. -/
module

public import proofs.«01_k».proof.Proof.Gen.KernelIdeal.Skeleton
public import proofs.«01_k».proof.Proof.Scalar
public import Idealize.ShloMosaic.Lib.Pointwise

@[expose] public section

set_option maxRecDepth 16384

noncomputable section

namespace Cert.KernelIdeal.Read

open Cert.KernelIdeal Cert.KernelIdeal.Gen
open Idealize.ShloMosaic
open Idealize.ShloMosaic.Pointwise
open Cert.Scalar

section Any

variable {F : FTy → Type} [FloatOps F]

/-- Each row's largest magnitude. -/
def amax (x : Vec F S64x27648 .bf16) : FVec F S64 .f32 :=
  multiReduction .maximumf [1] S64 (absf (k0_pay3 x)) 0xFF800000#32 reduces_S64x27648_S64 (.inl rfl) rfl

/-- Each row's largest magnitude times the f32 nearest 1/448. -/
def scaledCol (x : Vec F S64x27648 .bf16) : FVec F S64x1 .f32 := fun i => scaled (shapeCast S64x1 (amax x) shapeCasts_S64_S64x1 i)

/-- The lanes counted for each row. -/
def lanes (v : FVec F S64x1 .f32) : IVec S64x256 32 :=
  select (andi (cmpi .sgt (iota .tc S64x256 32 [1] iota_S64x256_d1_w32) (broadcast S64x256 0#32))
      (cmpf .oge (broadcastTo S64x256 v broadcasts_S64x1_S64x256) (bitcastToFloat .f32 (shli (iota .tc S64x256 32 [1] iota_S64x256_d1_w32) (broadcast S64x256 23#32)))))
    (broadcast S64x256 1#32) (broadcast S64x256 0#32)

/-- Each row's count. -/
def counts (v : FVec F S64x1 .f32) : IVec S64 32 := multiReductionI .add [1] S64 (lanes v) 0#32 reduces_S64x256_S64 rfl

/-- The exponents are `kerExp` of the largest magnitudes and the counts. -/
theorem pay4_split (x : Vec F S64x27648 .bf16) (i : S64x1.Idx) : k0_pay4 x i = kerExp (shapeCast S64x1 (amax x) shapeCasts_S64_S64x1 i)
    (shapeCast S64x1 (counts (scaledCol x)) shapeCasts_S64_S64x1 i) := rfl

/-- The column of largest magnitudes, at a row. -/
theorem amax_col (x : Vec F S64x27648 .bf16) (r : Fin 64) : shapeCast S64x1 (amax x) shapeCasts_S64_S64x1 (ix2 r 0) = amax x (ix1 r) := by
  pointwise

/-- The column of counts, at a row. -/
theorem counts_col (v : IVec S64 32) (r : Fin 64) : shapeCast S64x1 v shapeCasts_S64_S64x1 (ix2 r 0) = v (ix1 r) := by
  pointwise

/-- A lane of a row, from the row's scaled magnitude and the lane's number. -/
theorem lanes_apply (v : FVec F S64x1 .f32) (r : Fin 64) (l : Fin 256) : lanes v (ix2 r l) = lane (v (ix2 r 0)) (BitVec.ofNat 32 l.val) := by
  pointwise [lanes, lane]

/-- A row's count, from its scaled magnitude. -/
theorem counts_apply (v : FVec F S64x1 .f32) (r : Fin 64) : counts v (ix1 r) = Cert.Scalar.count (v (ix2 r 0)) := by
  have h : counts v (ix1 r) = (Finset.univ : Finset (Fin 256)).fold IntOp.addi 0#32 fun l => lanes v (ix2 r l) := by pointwise [counts]
  rw [h]
  unfold Cert.Scalar.count
  simp only [lanes_apply]

/-- A row's exponent, from its largest magnitude. -/
theorem pay4_apply (x : Vec F S64x27648 .bf16) (r : Fin 64) :
    k0_pay4 x (ix2 r 0) = kerExp (amax x (ix1 r)) (Cert.Scalar.count (scaled (amax x (ix1 r)))) := by
  rw [pay4_split, amax_col, counts_col, counts_apply]
  unfold scaledCol
  rw [amax_col]

/-- A code, from its element and its row's exponent. -/
theorem codes_apply (x : Vec F S64x27648 .bf16) (r : Fin 64) (j : Fin 27648) :
    k0_pay2 (k0_pay3 x) (k0_pay4 x) (ix2 r j) = kerCode (x (ix2 r j)) (k0_pay4 x (ix2 r 0)) := by
  generalize k0_pay4 x = e
  pointwise [k0_pay2, k0_pay3, kerCode, clip, kerPow, word]

/-- A row's scale, from its exponent. -/
theorem scales_apply (x : Vec F S64x27648 .bf16) (i : S64x1.Idx) : k0_pay1 (F := F) (k0_pay5 x) (k0_pay6 x) (k0_pay7 x) i = kerPow (k0_pay4 x i) := rfl

end Any

/-- A row's largest magnitude, on extended reals. -/
theorem amax_apply (x : Vec Ideal S64x27648 .bf16) (r : Fin 64) : amax x (ix1 r) = rowMax fun k => (x (ix2 r k) : EReal) := by
  pointwise [amax, k0_pay3, rowMax]

/-- The product of a block of codes and a block of weights, entry by entry. -/
theorem prod_apply (a : Vec Ideal S1536x2304 .fp8e4m3) (b : Vec Ideal S2304x1024 .fp8e4m3) (r : Fin 1536) (l : Fin 1024) :
    k1_pay2 a b (ix2 r l) = ∑ k : Fin 2304, ((a (ix2 r k) : EReal) * (b (ix2 k l) : EReal)) := by
  pointwise [k1_pay2, k1_pay1]

/-- The product added to the accumulator. -/
theorem step_apply (a : Vec Ideal S1536x2304 .fp8e4m3) (b : Vec Ideal S2304x1024 .fp8e4m3) (s : Vec Ideal S1536x1024 .f32) (r : Fin 1536) (l : Fin 1024) :
    k1_pay3 a b s (ix2 r l) = (s (ix2 r l) : EReal) + ∑ k : Fin 2304, ((a (ix2 r k) : EReal) * (b (ix2 k l) : EReal)) := by
  pointwise [k1_pay3, k1_pay1]

/-- The epilogue: the accumulator times the row's scale and the column's, plus the column's bias. -/
theorem epilogue_apply (s : Vec Ideal S1536x1024 .f32) (p : Vec Ideal S1536x1 .f32) (q b : Vec Ideal S1x1024 .f32) (r : Fin 1536) (l : Fin 1024) :
    k1_pay4 s p q b (ix2 r l) = (s (ix2 r l) : EReal) * (p (ix2 r 0) : EReal) * (q (ix2 0 l) : EReal) + (b (ix2 0 l) : EReal) := by
  pointwise [k1_pay4]

end Cert.KernelIdeal.Read

end
-- ==== Proof.KernelIdealBlocks.lean ====
/- The arrays the kernel's two regions leave, entry by entry, on extended reals: each entry lies in one block, and that block
   holds what the body wrote at the grid point that left it. -/
module

public import proofs.«01_k».proof.Proof.KernelIdealQuant
public import proofs.«01_k».proof.Proof.KernelIdealMat
public import proofs.«01_k».proof.Proof.KernelIdealRead
public import Idealize.ShloMosaic.Lib.Pipeline.Value

@[expose] public section

set_option maxRecDepth 16384

noncomputable section

namespace Cert.KernelIdeal.Blocks

open Cert.KernelIdeal Cert.KernelIdeal.Gen Cert.KernelIdeal.Read
open Idealize.ShloMosaic Idealize.ShloMosaic.TcCoe
open Idealize.ShloMosaic.Pointwise
open Idealize.ShloMosaic.Pipeline (Dat)
open Cert.Scalar
open Cert.KernelIdeal.Mat (off_zero)

variable (W : Dev nD → Valuation τ sig (Elt Ideal))

/-! ## The quantising region -/

namespace Q

/-- Where window 0's block lies, in blocks, at each point. -/
theorem index0 : ∀ t : Fin cfg0.N, win0_0.index t 0 = t.val ∧ win0_0.index t 1 = 0 :=
  (by decide +kernel : ∀ t : Fin grid0.N, win0_0.index t 0 = t.val ∧ win0_0.index t 1 = 0)
/-- Where window 1's block lies, in blocks, at each point. -/
theorem index1 : ∀ t : Fin cfg0.N, win0_1.index t 0 = t.val ∧ win0_1.index t 1 = 0 :=
  (by decide +kernel : ∀ t : Fin grid0.N, win0_1.index t 0 = t.val ∧ win0_1.index t 1 = 0)
/-- Where window 2's block lies, in blocks, at each point. -/
theorem index2 : ∀ t : Fin cfg0.N, win0_2.index t 0 = t.val ∧ win0_2.index t 1 = 0 :=
  (by decide +kernel : ∀ t : Fin grid0.N, win0_2.index t 0 = t.val ∧ win0_2.index t 1 = 0)

/-- Row `64 t + r` of the array is row `r` of block `t`. -/
abbrev row (t : Fin cfg0.N) (r : Fin 64) : Fin 1536 := ⟨64 * t.val + r.val, by have := lt_of_lt_of_eq t.isLt (show cfg0.N = 24 from N_0); omega⟩

/-- The array's place of an entry of window 0's block. -/
theorem emb0 (t : Fin cfg0.N) (r : Fin 64) (k : Fin 27648) : ((cfg0.win 0).blk t).view.emb (ix2 r k) = (ix2 (row t r) k : S1536x27648.Idx) := by
  funext a; apply Fin.ext
  match a with
  | ⟨0, _⟩ => show win0_0.index t 0 * 64 + 1 * r.val = 64 * t.val + r.val; rw [(index0 t).1]; omega
  | ⟨1, _⟩ => show win0_0.index t 1 * 27648 + 1 * k.val = k.val; rw [(index0 t).2]; omega
/-- The array's place of an entry of window 1's block. -/
theorem emb1 (t : Fin cfg0.N) (r : Fin 64) (k : Fin 27648) : ((cfg0.win 1).blk t).view.emb (ix2 r k) = (ix2 (row t r) k : S1536x27648.Idx) := by
  funext a; apply Fin.ext
  match a with
  | ⟨0, _⟩ => show win0_1.index t 0 * 64 + 1 * r.val = 64 * t.val + r.val; rw [(index1 t).1]; omega
  | ⟨1, _⟩ => show win0_1.index t 1 * 27648 + 1 * k.val = k.val; rw [(index1 t).2]; omega
/-- The array's place of an entry of window 2's block. -/
theorem emb2 (t : Fin cfg0.N) (r : Fin 64) : ((cfg0.win 2).blk t).view.emb (ix2 r 0) = (ix2 (row t r) 0 : S1536x1.Idx) := by
  funext a; apply Fin.ext
  match a with
  | ⟨0, _⟩ => show win0_2.index t 0 * 64 + 1 * r.val = 64 * t.val + r.val; rw [(index2 t).1]; omega
  | ⟨1, _⟩ => show win0_2.index t 1 * 1 + 1 * 0 = 0; rw [(index2 t).2]

/-- The activations, as the region finds them. -/
abbrev X (c : Dev nD) : Vec Ideal S1536x27648 .bf16 := W c (Proc.devRef .tc main_v0)

/-- An entry of a block of the activations. -/
theorem iblk_apply (c : Dev nD) (t : Fin cfg0.N) (r : Fin 64) (k : Fin 27648) : Quant.iblk W c 0 t (ix2 r k) = X W c (ix2 (row t r) k) := by
  show X W c (((cfg0.win 0).blk t).view.emb (ix2 r k)) = _
  rw [emb0]

/-- The blocks of codes do not overlap. -/
theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (Fin.ext (by have := congrFun h 0; rw [← (index1 t).1, ← (index1 t').1]; exact this))
/-- The blocks of scales do not overlap. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (Fin.ext (by have := congrFun h 0; rw [← (index2 t).1, ← (index2 t').1]; exact this))

/-- The kernel's exponent of a row of activations. -/
def rowExp (c : Dev nD) (r : Fin 1536) : BitVec 32 :=
  kerExp (F := Ideal) (rowMax fun k => (X W c (ix2 r k) : EReal)) (Cert.Scalar.count (F := Ideal) (scaled (F := Ideal) (rowMax fun k => (X W c (ix2 r k) : EReal))))

/-- A block's row has the exponent of the array's row. -/
theorem exp_apply (c : Dev nD) (t : Fin cfg0.N) (r : Fin 64) : k0_pay4 (F := Ideal) (Quant.iblk W c 0 t) (ix2 r 0) = rowExp W c (row t r) := by
  rw [pay4_apply, amax_apply]
  simp only [iblk_apply]
  rfl

/-- Each row lies in one of the blocks. -/
theorem row_of (r : Fin 1536) : ∃ (t : Fin cfg0.N) (q : Fin 64), r = row t q :=
  ⟨⟨r.val / 64, by rw [show cfg0.N = 24 from N_0]; omega⟩, ⟨r.val % 64, by omega⟩, Fin.ext (by show r.val = 64 * (r.val / 64) + r.val % 64; omega)⟩

/-- The codes the region leaves. -/
theorem codes_at (c : Dev nD) (r : Fin 1536) (j : Fin 27648) :
    (Quant.dat W c).arrAt 1 cfg0.N (ix2 r j) = kerCode (F := Ideal) (X W c (ix2 r j)) (rowExp W c r) := by
  obtain ⟨t, q, rfl⟩ := row_of r
  have h := congrFun ((Quant.dat W c).read_blk_arrAt_eq_flushed 1 disjoint1 cfg0.N t t.isLt (flush0_1 t)) (ix2 q j)
  have e : (Quant.dat W c).flushed 1 t (ix2 q j) = Quant.codes (Quant.iblk W c 0 t) (ix2 q j) := by
    show ((Quant.dat W c).after 1 t) (ix2 q j) = _
    rw [Quant.after_1]
  rw [e] at h
  have h' : (Quant.dat W c).arrAt 1 cfg0.N (((cfg0.win 1).blk t).view.emb (ix2 q j)) = Quant.codes (Quant.iblk W c 0 t) (ix2 q j) :=
    ((View.read_apply _ _).trans (cast_eq _ _)).symm.trans h
  rw [emb1] at h'
  rw [h']
  unfold Quant.codes Quant.r0
  rw [View.canon_unit_zero off_zero, View.ld_unit_zero (S := S64x27648) off_zero, codes_apply, exp_apply, iblk_apply]

/-- The scales the region leaves. -/
theorem scales_at (c : Dev nD) (r : Fin 1536) :
    (Quant.dat W c).arrAt 2 cfg0.N (ix2 r 0) = kerPow (F := Ideal) (rowExp W c r) := by
  obtain ⟨t, q, rfl⟩ := row_of r
  have h := congrFun ((Quant.dat W c).read_blk_arrAt_eq_flushed 2 disjoint2 cfg0.N t t.isLt (flush0_2 t)) (ix2 q 0)
  have e : (Quant.dat W c).flushed 2 t (ix2 q 0) = Quant.scales (Quant.iblk W c 0 t) (ix2 q 0) := by
    show ((Quant.dat W c).after 2 t) (ix2 q 0) = _
    rw [Quant.after_2]
  rw [e] at h
  have h' : (Quant.dat W c).arrAt 2 cfg0.N (((cfg0.win 2).blk t).view.emb (ix2 q 0)) = Quant.scales (Quant.iblk W c 0 t) (ix2 q 0) := h
  rw [emb2] at h'
  rw [h']
  unfold Quant.scales Quant.r0 Quant.r1
  rw [View.canon_unit_zero off_zero, View.ld_unit_zero (S := S64x27648) off_zero, scales_apply, exp_apply]

end Q

/-! ## The matrix-product region -/

namespace M

/-- Where window 0's block lies, in blocks, at each point. -/
theorem index0 : ∀ t : Fin cfg1.N, win1_0.index t 0 = 0 ∧ win1_0.index t 1 = t.val % 12 :=
  (by decide +kernel : ∀ t : Fin grid1.N, win1_0.index t 0 = 0 ∧ win1_0.index t 1 = t.val % 12)
/-- Where window 1's block lies, in blocks, at each point. -/
theorem index1 : ∀ t : Fin cfg1.N, win1_1.index t 0 = t.val % 12 ∧ win1_1.index t 1 = t.val / 12 :=
  (by decide +kernel : ∀ t : Fin grid1.N, win1_1.index t 0 = t.val % 12 ∧ win1_1.index t 1 = t.val / 12)
/-- Where window 2's block lies, in blocks, at each point. -/
theorem index2 : ∀ t : Fin cfg1.N, win1_2.index t 0 = 0 ∧ win1_2.index t 1 = 0 :=
  (by decide +kernel : ∀ t : Fin grid1.N, win1_2.index t 0 = 0 ∧ win1_2.index t 1 = 0)
/-- Where window 3's block lies, in blocks, at each point. -/
theorem index3 : ∀ t : Fin cfg1.N, win1_3.index t 0 = 0 ∧ win1_3.index t 1 = t.val / 12 :=
  (by decide +kernel : ∀ t : Fin grid1.N, win1_3.index t 0 = 0 ∧ win1_3.index t 1 = t.val / 12)
/-- Where window 4's block lies, in blocks, at each point. -/
theorem index4 : ∀ t : Fin cfg1.N, win1_4.index t 0 = 0 ∧ win1_4.index t 1 = t.val / 12 :=
  (by decide +kernel : ∀ t : Fin grid1.N, win1_4.index t 0 = 0 ∧ win1_4.index t 1 = t.val / 12)
/-- Where window 5's block lies, in blocks, at each point. -/
theorem index5 : ∀ t : Fin cfg1.N, win1_5.index t 0 = 0 ∧ win1_5.index t 1 = t.val / 12 :=
  (by decide +kernel : ∀ t : Fin grid1.N, win1_5.index t 0 = 0 ∧ win1_5.index t 1 = t.val / 12)

/-- There are 60 points. -/
theorem lt60 (t : Fin cfg1.N) : t.val < 60 := lt_of_lt_of_eq t.isLt (show cfg1.N = 60 from N_1)

/-- Place `q` of the summed block of point `t`, -/
abbrev kk (t : Fin cfg1.N) (q : Fin 2304) : Fin 27648 := ⟨t.val % 12 * 2304 + q.val, by omega⟩
/-- and column `l` of its column block. -/
abbrev col (t : Fin cfg1.N) (l : Fin 1024) : Fin 5120 := ⟨t.val / 12 * 1024 + l.val, by have := lt60 t; omega⟩

/-- The array's place of an entry of window 0's block. -/
theorem emb0 (t : Fin cfg1.N) (r : Fin 1536) (q : Fin 2304) : ((cfg1.win 0).blk t).view.emb (ix2 r q) = (ix2 r (kk t q) : S1536x27648.Idx) := by
  funext a; apply Fin.ext
  match a with
  | ⟨0, _⟩ => show win1_0.index t 0 * 1536 + 1 * r.val = r.val; rw [(index0 t).1]; omega
  | ⟨1, _⟩ => show win1_0.index t 1 * 2304 + 1 * q.val = t.val % 12 * 2304 + q.val; rw [(index0 t).2]; omega
/-- The array's place of an entry of window 1's block. -/
theorem emb1 (t : Fin cfg1.N) (q : Fin 2304) (l : Fin 1024) : ((cfg1.win 1).blk t).view.emb (ix2 q l) = (ix2 (kk t q) (col t l) : S27648x5120.Idx) := by
  funext a; apply Fin.ext
  match a with
  | ⟨0, _⟩ => show win1_1.index t 0 * 2304 + 1 * q.val = t.val % 12 * 2304 + q.val; rw [(index1 t).1]; omega
  | ⟨1, _⟩ => show win1_1.index t 1 * 1024 + 1 * l.val = t.val / 12 * 1024 + l.val; rw [(index1 t).2]; omega
/-- The array's place of an entry of window 2's block. -/
theorem emb2 (t : Fin cfg1.N) (r : Fin 1536) : ((cfg1.win 2).blk t).view.emb (ix2 r 0) = (ix2 r 0 : S1536x1.Idx) := by
  funext a; apply Fin.ext
  match a with
  | ⟨0, _⟩ => show win1_2.index t 0 * 1536 + 1 * r.val = r.val; rw [(index2 t).1]; omega
  | ⟨1, _⟩ => show win1_2.index t 1 * 1 + 1 * 0 = 0; rw [(index2 t).2]
/-- The array's place of an entry of window 3's block. -/
theorem emb3 (t : Fin cfg1.N) (l : Fin 1024) : ((cfg1.win 3).blk t).view.emb (ix2 0 l) = (ix2 0 (col t l) : S1x5120.Idx) := by
  funext a; apply Fin.ext
  match a with
  | ⟨0, _⟩ => show win1_3.index t 0 * 1 + 1 * 0 = 0; rw [(index3 t).1]
  | ⟨1, _⟩ => show win1_3.index t 1 * 1024 + 1 * l.val = t.val / 12 * 1024 + l.val; rw [(index3 t).2]; omega
/-- The array's place of an entry of window 4's block. -/
theorem emb4 (t : Fin cfg1.N) (l : Fin 1024) : ((cfg1.win 4).blk t).view.emb (ix2 0 l) = (ix2 0 (col t l) : S1x5120.Idx) := by
  funext a; apply Fin.ext
  match a with
  | ⟨0, _⟩ => show win1_4.index t 0 * 1 + 1 * 0 = 0; rw [(index4 t).1]
  | ⟨1, _⟩ => show win1_4.index t 1 * 1024 + 1 * l.val = t.val / 12 * 1024 + l.val; rw [(index4 t).2]; omega
/-- The array's place of an entry of window 5's block. -/
theorem emb5 (t : Fin cfg1.N) (r : Fin 1536) (l : Fin 1024) : ((cfg1.win 5).blk t).view.emb (ix2 r l) = (ix2 r (col t l) : S1536x5120.Idx) := by
  funext a; apply Fin.ext
  match a with
  | ⟨0, _⟩ => show win1_5.index t 0 * 1536 + 1 * r.val = r.val; rw [(index5 t).1]; omega
  | ⟨1, _⟩ => show win1_5.index t 1 * 1024 + 1 * l.val = t.val / 12 * 1024 + l.val; rw [(index5 t).2]; omega

/-- The codes, the weights, the rows' scales, the columns' scales and the bias, as the region finds them. -/
abbrev C (c : Dev nD) : Vec Ideal S1536x27648 .fp8e4m3 := W c (Proc.devRef .tc main_v1_0)
abbrev B (c : Dev nD) : Vec Ideal S27648x5120 .fp8e4m3 := W c (Proc.devRef .tc main_arg1)
abbrev P (c : Dev nD) : Vec Ideal S1536x1 .f32 := W c (Proc.devRef .tc main_v1_1)
abbrev T (c : Dev nD) : Vec Ideal S1x5120 .f32 := W c (Proc.devRef .tc main_v2)
abbrev D (c : Dev nD) : Vec Ideal S1x5120 .f32 := W c (Proc.devRef .tc main_v3)

/-- An entry of a block of the codes. -/
theorem iblk0 (c : Dev nD) (t : Fin cfg1.N) (r : Fin 1536) (q : Fin 2304) : Mat.iblk W c 0 t (ix2 r q) = C W c (ix2 r (kk t q)) := by
  show C W c (((cfg1.win 0).blk t).view.emb (ix2 r q)) = _
  rw [emb0]
/-- An entry of a block of the weights. -/
theorem iblk1 (c : Dev nD) (t : Fin cfg1.N) (q : Fin 2304) (l : Fin 1024) : Mat.iblk W c 1 t (ix2 q l) = B W c (ix2 (kk t q) (col t l)) := by
  show B W c (((cfg1.win 1).blk t).view.emb (ix2 q l)) = _
  rw [emb1]
/-- An entry of a block of the rows' scales. -/
theorem iblk2 (c : Dev nD) (t : Fin cfg1.N) (r : Fin 1536) : Mat.iblk W c 2 t (ix2 r 0) = P W c (ix2 r 0) := by
  show P W c (((cfg1.win 2).blk t).view.emb (ix2 r 0)) = _
  rw [emb2]
/-- An entry of a block of the columns' scales. -/
theorem iblk3 (c : Dev nD) (t : Fin cfg1.N) (l : Fin 1024) : Mat.iblk W c 3 t (ix2 0 l) = T W c (ix2 0 (col t l)) := by
  show T W c (((cfg1.win 3).blk t).view.emb (ix2 0 l)) = _
  rw [emb3]
/-- An entry of a block of the bias. -/
theorem iblk4 (c : Dev nD) (t : Fin cfg1.N) (l : Fin 1024) : Mat.iblk W c 4 t (ix2 0 l) = D W c (ix2 0 (col t l)) := by
  show D W c (((cfg1.win 4).blk t).view.emb (ix2 0 l)) = _
  rw [emb4]

/-- One product of the sum for entry `(r, j)`, and the sum over block `b` of the summed axis. -/
def term (c : Dev nD) (r : Fin 1536) (j : Fin 5120) (k : Fin 27648) : EReal := (C W c (ix2 r k) : EReal) * (B W c (ix2 k j) : EReal)
def blockSum (c : Dev nD) (r : Fin 1536) (j : Fin 5120) (b : Fin 12) : EReal := ∑ q : Fin 2304, term W c r j ⟨b.val * 2304 + q.val, by omega⟩

/-- The accumulator after point `12 g + s` is the sum of the blocks up to `s`. -/
theorem acc_apply (c : Dev nD) (r : Fin 1536) (l : Fin 1024) (g : ℕ) : ∀ (s : ℕ) (hs : s < 12) (h : 12 * g + s < cfg1.N),
    (Mat.acc W c (12 * g + s) h (ix2 r l) : EReal) = ∑ b : Fin (s + 1), blockSum W c r (col ⟨12 * g + s, h⟩ l) ⟨b.val, by omega⟩
  | 0, hs, h => by
    have e := Mat.acc_first W c ⟨12 * g + 0, h⟩ (by show (12 * g + 0) % 12 = 0; omega)
    rw [show Mat.acc W c (12 * g + 0) h = _ from e, prod_apply]
    rw [Fin.sum_univ_one]
    unfold blockSum term
    refine Finset.sum_congr rfl fun q _ => ?_
    rw [iblk0, iblk1]
    have hk : kk ⟨12 * g + 0, h⟩ q = ⟨(0 : Fin 1).val * 2304 + q.val, by show 0 * 2304 + q.val < 27648; omega⟩ :=
      Fin.ext (by show (12 * g + 0) % 12 * 2304 + q.val = 0 * 2304 + q.val; omega)
    rw [hk]
  | s + 1, hs, h => by
    have e := Mat.acc_next W c ⟨12 * g + (s + 1), h⟩ (by show (12 * g + (s + 1)) % 12 ≠ 0; omega)
    rw [show Mat.acc W c (12 * g + (s + 1)) h = _ from e, step_apply]
    rw [Fin.sum_univ_castSucc (n := s + 1)]
    congr 1
    · have ih := acc_apply c r l g s (by omega) (by omega)
      refine Eq.trans ?_ (ih.trans ?_)
      · rfl
      · refine Finset.sum_congr rfl fun b _ => ?_
        have hc : col ⟨12 * g + s, by omega⟩ l = col ⟨12 * g + (s + 1), h⟩ l :=
          Fin.ext (by show (12 * g + s) / 12 * 1024 + l.val = (12 * g + (s + 1)) / 12 * 1024 + l.val; omega)
        rw [hc]; rfl
    · unfold blockSum term
      refine Finset.sum_congr rfl fun q _ => ?_
      rw [iblk0, iblk1]
      have hk : kk ⟨12 * g + (s + 1), h⟩ q = ⟨(Fin.last (s + 1)).val * 2304 + q.val, by show (s + 1) * 2304 + q.val < 27648; omega⟩ :=
        Fin.ext (by show (12 * g + (s + 1)) % 12 * 2304 + q.val = (s + 1) * 2304 + q.val; omega)
      rw [hk]

/-- The output blocks that are written back do not overlap. -/
theorem disjoint5 : ∀ t t' : Fin cfg1.N, (cfg1.win 5).flush t = true → (cfg1.win 5).flush t' = true → t ≠ t' →
    Disjoint ((cfg1.win 5).blk t).view.set ((cfg1.win 5).blk t').view.set :=
  fun t t' hf hf' hne => (cfg1.win 5).disjoint_blk fun h => hne (Fin.ext (by
    have h1 : win1_5.index t 1 = win1_5.index t' 1 := congrFun h 1
    rw [(index5 t).2, (index5 t').2] at h1
    have := (flush1_5 t).mp hf
    have := (flush1_5 t').mp hf'
    omega))

/-- The array the region leaves: the whole sum times the row's scale and the column's, plus the column's bias. -/
theorem y_at (c : Dev nD) (r : Fin 1536) (j : Fin 5120) :
    ((Mat.dat W c).arrAt 5 cfg1.N (ix2 r j) : EReal)
      = (∑ k : Fin 27648, (C W c (ix2 r k) : EReal) * (B W c (ix2 k j) : EReal)) * (P W c (ix2 r 0) : EReal) * (T W c (ix2 0 j) : EReal) + (D W c (ix2 0 j) : EReal) := by
  obtain ⟨g, l, hj⟩ : ∃ (g : Fin 5) (l : Fin 1024), j.val = g.val * 1024 + l.val := ⟨⟨j.val / 1024, by omega⟩, ⟨j.val % 1024, by omega⟩, by show j.val = j.val / 1024 * 1024 + j.val % 1024; omega⟩
  have hN : 12 * g.val + 11 < cfg1.N := by rw [show cfg1.N = 60 from N_1]; omega
  have hcol : j = col ⟨12 * g.val + 11, hN⟩ l := Fin.ext (by rw [hj]; show _ = (12 * g.val + 11) / 12 * 1024 + l.val; omega)
  have hf : (cfg1.win 5).flush ⟨12 * g.val + 11, hN⟩ = true := (flush1_5 _).mpr (by show (12 * g.val + 11) % 12 = 11; omega)
  have h := congrFun ((Mat.dat W c).read_blk_arrAt_eq_flushed 5 disjoint5 cfg1.N ⟨12 * g.val + 11, hN⟩ hN hf) (ix2 r l)
  have e : (Mat.dat W c).flushed 5 ⟨12 * g.val + 11, hN⟩ (ix2 r l) = Mat.out W c ⟨12 * g.val + 11, hN⟩ (ix2 r l) := by
    show ((Mat.dat W c).after 5 ⟨12 * g.val + 11, hN⟩) (ix2 r l) = _
    rw [Mat.after_5]
  rw [e] at h
  have h' : (Mat.dat W c).arrAt 5 cfg1.N (((cfg1.win 5).blk ⟨12 * g.val + 11, hN⟩).view.emb (ix2 r l)) = Mat.out W c ⟨12 * g.val + 11, hN⟩ (ix2 r l) := h
  rw [emb5, ← hcol] at h'
  rw [h']
  unfold Mat.out
  rw [epilogue_apply, iblk2, iblk3, iblk4, ← hcol]
  have hs := acc_apply W c r l g.val 11 (by omega) hN
  rw [← hcol] at hs
  have hsum : (∑ k : Fin 27648, (C W c (ix2 r k) : EReal) * (B W c (ix2 k j) : EReal)) = ∑ b : Fin (11 + 1), blockSum W c r j ⟨b.val, by omega⟩ :=
    Fin.sum_univ_tiles 12 2304 rfl (term W c r j)
  rw [hsum, ← hs]

end M

end Cert.KernelIdeal.Blocks

end
-- ==== Proof.KernelIdealValue.lean ====
/- The kernel's three results, entry by entry, on extended reals, as functions of its four arguments. -/
module

public import proofs.«01_k».proof.Proof.KernelIdealRun
public import proofs.«01_k».proof.Proof.KernelIdealBlocks
public import Idealize.ShloMosaic.Lib.StableHlo.Run

@[expose] public section

set_option maxRecDepth 16384

noncomputable section

namespace Cert.KernelIdeal.Value

open Cert.KernelIdeal Cert.KernelIdeal.Gen Cert.KernelIdeal.Run
open Idealize.ShloMosaic Idealize.ShloMosaic.TcCoe
open Idealize.ShloMosaic.Pointwise
open Cert.Scalar

variable (m : (ℓ : Loc nD τ sig) → Buf (Elt Ideal) ℓ)

/-- The activations, the weights, the columns' scales and the bias. -/
abbrev X (c : Dev nD) : Vec Ideal S4x384x27648 .bf16 := m ((c.tc : Thread nD τ).loc main_arg0)
abbrev B (c : Dev nD) : Vec Ideal S27648x5120 .fp8e4m3 := m ((c.tc : Thread nD τ).loc main_arg1)
abbrev T (c : Dev nD) : Vec Ideal S5120 .f32 := m ((c.tc : Thread nD τ).loc main_arg2)
abbrev D (c : Dev nD) : Vec Ideal S5120 .f32 := m ((c.tc : Thread nD τ).loc main_arg3)

/-- Token `s` of batch `b` is row `384 b + s`. -/
abbrev row (b : Fin 4) (s : Fin 384) : Fin 1536 := ⟨b.val * 384 + s.val, by omega⟩

/-! ## The reshapes before, between and after the regions -/

/-- The activations as rows. -/
theorem U1_v0 (c : Dev nD) : U1 m c main_v0 = shapeCast S1536x27648 (X m c) shapeCasts_S4x384x27648_S1536x27648 := by
  unfold U1; after_results; rfl
/-- The columns' scales as a row. -/
theorem U3_v2 (c : Dev nD) : U3 m c main_v2 = shapeCast S1x5120 (U2 m c main_arg2 : Vec Ideal S5120 .f32) shapeCasts_S5120_S1x5120 := by
  unfold U3; after_results; rfl
/-- The bias as a row. -/
theorem U3_v3 (c : Dev nD) : U3 m c main_v3 = shapeCast S1x5120 (U2 m c main_arg3 : Vec Ideal S5120 .f32) shapeCasts_S5120_S1x5120 := by
  unfold U3; after_results; rfl
/-- The first result is the product reshaped. -/
theorem U5_v5 (c : Dev nD) : U5 m c main_v5 = shapeCast S4x384x5120 (U4 m c main_v4 : Vec Ideal S1536x5120 .bf16) shapeCasts_S1536x5120_S4x384x5120 := by
  unfold U5; after_results; rfl
/-- The second result is the codes reshaped. -/
theorem U5_v6 (c : Dev nD) : U5 m c main_v6 = shapeCast S4x384x27648 (U4 m c main_v1_0 : Vec Ideal S1536x27648 .fp8e4m3) shapeCasts_S1536x27648_S4x384x27648 := by
  unfold U5; after_results; rfl
/-- The third result is the scales reshaped. -/
theorem U5_v7 (c : Dev nD) : U5 m c main_v7 = shapeCast S4x384x1 (U4 m c main_v1_1 : Vec Ideal S1536x1 .f32) shapeCasts_S1536x1_S4x384x1 := by
  unfold U5; after_results; rfl

/-- An entry of the activations as rows. -/
theorem cast_x (v : Vec Ideal S4x384x27648 .bf16) (b : Fin 4) (s : Fin 384) (k : Fin 27648) :
    shapeCast S1536x27648 v shapeCasts_S4x384x27648_S1536x27648 (ix2 (row b s) k) = v (ix3 b s k) := by
  pointwise
  congr 2 <;> apply Fin.ext <;> simp only [] <;> omega
/-- An entry of a vector as a row. -/
theorem cast_row (v : Vec Ideal S5120 .f32) (j : Fin 5120) : shapeCast S1x5120 v shapeCasts_S5120_S1x5120 (ix2 0 j) = v (ix1 j) := by pointwise
/-- An entry of the product reshaped. -/
theorem cast_y (v : Vec Ideal S1536x5120 .bf16) (b : Fin 4) (s : Fin 384) (j : Fin 5120) :
    shapeCast S4x384x5120 v shapeCasts_S1536x5120_S4x384x5120 (ix3 b s j) = v (ix2 (row b s) j) := by pointwise
/-- An entry of the codes reshaped. -/
theorem cast_codes (v : Vec Ideal S1536x27648 .fp8e4m3) (b : Fin 4) (s : Fin 384) (j : Fin 27648) :
    shapeCast S4x384x27648 v shapeCasts_S1536x27648_S4x384x27648 (ix3 b s j) = v (ix2 (row b s) j) := by pointwise
/-- An entry of the scales reshaped. -/
theorem cast_scales (v : Vec Ideal S1536x1 .f32) (b : Fin 4) (s : Fin 384) :
    shapeCast S4x384x1 v shapeCasts_S1536x1_S4x384x1 (ix3 b s 0) = v (ix2 (row b s) 0) := by pointwise

/-! ## What the regions find -/

/-- The codes after the first region. -/
theorem U2_codes (c : Dev nD) : U2 m c main_v1_0 = (Quant.dat (U1 m) c).arrAt 1 cfg0.N := U2_arr m c 1
/-- The scales after the first region. -/
theorem U2_scales (c : Dev nD) : U2 m c main_v1_1 = (Quant.dat (U1 m) c).arrAt 2 cfg0.N := U2_arr m c 2
/-- The codes before the second region. -/
theorem U3_codes (c : Dev nD) : U3 m c main_v1_0 = (Quant.dat (U1 m) c).arrAt 1 cfg0.N := (U3_of m c main_v1_0 (by decide)).trans (U2_codes m c)
/-- The scales before the second region. -/
theorem U3_scales (c : Dev nD) : U3 m c main_v1_1 = (Quant.dat (U1 m) c).arrAt 2 cfg0.N := (U3_of m c main_v1_1 (by decide)).trans (U2_scales m c)
/-- The codes after the second region. -/
theorem U4_codes (c : Dev nD) : U4 m c main_v1_0 = (Quant.dat (U1 m) c).arrAt 1 cfg0.N := (U4_of m c main_v1_0 (by decide)).trans (U3_codes m c)
/-- The scales after the second region. -/
theorem U4_scales (c : Dev nD) : U4 m c main_v1_1 = (Quant.dat (U1 m) c).arrAt 2 cfg0.N := (U4_of m c main_v1_1 (by decide)).trans (U3_scales m c)
/-- The product after the second region. -/
theorem U4_y (c : Dev nD) : U4 m c main_v4 = (Mat.dat (U3 m) c).arrAt 5 cfg1.N := U4_arr m c 5
/-- The columns' scales are unchanged by the first region. -/
theorem U2_arg2 (c : Dev nD) : U2 m c main_arg2 = T m c := (U2_of m c main_arg2 (by decide)).trans (U1_of m c main_arg2 (by decide))
/-- The bias is unchanged by the first region. -/
theorem U2_arg3 (c : Dev nD) : U2 m c main_arg3 = D m c := (U2_of m c main_arg3 (by decide)).trans (U1_of m c main_arg3 (by decide))
/-- The weights are unchanged before the second region. -/
theorem U3_arg1 (c : Dev nD) : U3 m c main_arg1 = B m c :=
  (U3_of m c main_arg1 (by decide)).trans <| (U2_of m c main_arg1 (by decide)).trans (U1_of m c main_arg1 (by decide))

/-- The kernel's exponent of a token. -/
def rowExp (c : Dev nD) (b : Fin 4) (s : Fin 384) : BitVec 32 :=
  kerExp (F := Ideal) (rowMax fun k => (X m c (ix3 b s k) : EReal)) (Cert.Scalar.count (F := Ideal) (scaled (F := Ideal) (rowMax fun k => (X m c (ix3 b s k) : EReal))))

/-- An entry of the first region's activations. -/
theorem x_at (c : Dev nD) (b : Fin 4) (s : Fin 384) (k : Fin 27648) : Blocks.Q.X (U1 m) c (ix2 (row b s) k) = X m c (ix3 b s k) := by
  show U1 m c main_v0 (ix2 (row b s) k) = _
  rw [U1_v0, cast_x]

/-- A row's exponent in the first region is its token's. -/
theorem exp_at (c : Dev nD) (b : Fin 4) (s : Fin 384) : Blocks.Q.rowExp (U1 m) c (row b s) = rowExp m c b s := by
  have h : (fun k => (Blocks.Q.X (U1 m) c (ix2 (row b s) k) : EReal)) = fun k => (X m c (ix3 b s k) : EReal) := funext fun k => x_at m c b s k
  unfold Blocks.Q.rowExp rowExp
  rw [h]

/-- A code of the first region, of a token. -/
theorem region_codes (c : Dev nD) (b : Fin 4) (s : Fin 384) (j : Fin 27648) :
    (Quant.dat (U1 m) c).arrAt 1 cfg0.N (ix2 (row b s) j) = kerCode (F := Ideal) (X m c (ix3 b s j)) (rowExp m c b s) := by
  rw [Blocks.Q.codes_at, x_at, exp_at]
/-- A scale of the first region, of a token. -/
theorem region_scales (c : Dev nD) (b : Fin 4) (s : Fin 384) :
    (Quant.dat (U1 m) c).arrAt 2 cfg0.N (ix2 (row b s) 0) = kerPow (F := Ideal) (rowExp m c b s) := by
  rw [Blocks.Q.scales_at, exp_at]

/-! ## The results -/

/-- The codes. -/
theorem codes_at (c : Dev nD) (b : Fin 4) (s : Fin 384) (j : Fin 27648) :
    U5 m c main_v6 (ix3 b s j) = kerCode (F := Ideal) (X m c (ix3 b s j)) (rowExp m c b s) := by
  rw [U5_v6, cast_codes, U4_codes, region_codes]

/-- The scales. -/
theorem scales_at (c : Dev nD) (b : Fin 4) (s : Fin 384) : U5 m c main_v7 (ix3 b s 0) = kerPow (F := Ideal) (rowExp m c b s) := by
  rw [U5_v7, cast_scales, U4_scales, region_scales]

/-- A code that the second region reads. -/
theorem mat_codes (c : Dev nD) (b : Fin 4) (s : Fin 384) (k : Fin 27648) :
    Blocks.M.C (U3 m) c (ix2 (row b s) k) = kerCode (F := Ideal) (X m c (ix3 b s k)) (rowExp m c b s) := by
  show U3 m c main_v1_0 (ix2 (row b s) k) = _
  rw [U3_codes, region_codes]
/-- A scale that the second region reads. -/
theorem mat_scales (c : Dev nD) (b : Fin 4) (s : Fin 384) : Blocks.M.P (U3 m) c (ix2 (row b s) 0) = kerPow (F := Ideal) (rowExp m c b s) := by
  show U3 m c main_v1_1 (ix2 (row b s) 0) = _
  rw [U3_scales, region_scales]
/-- The weights that the second region reads. -/
theorem mat_weights (c : Dev nD) : Blocks.M.B (U3 m) c = B m c := U3_arg1 m c
/-- A column's scale that the second region reads. -/
theorem mat_colscale (c : Dev nD) (j : Fin 5120) : Blocks.M.T (U3 m) c (ix2 0 j) = T m c (ix1 j) := by
  show U3 m c main_v2 (ix2 0 j) = _
  rw [U3_v2, cast_row, U2_arg2]
/-- An entry of the bias that the second region reads. -/
theorem mat_bias (c : Dev nD) (j : Fin 5120) : Blocks.M.D (U3 m) c (ix2 0 j) = D m c (ix1 j) := by
  show U3 m c main_v3 (ix2 0 j) = _
  rw [U3_v3, cast_row, U2_arg3]

/-- The product. -/
theorem y_at (c : Dev nD) (b : Fin 4) (s : Fin 384) (j : Fin 5120) :
    (U5 m c main_v5 (ix3 b s j) : EReal)
      = (∑ k : Fin 27648, (kerCode (F := Ideal) (X m c (ix3 b s k)) (rowExp m c b s) : EReal) * (B m c (ix2 k j) : EReal)) * (kerPow (F := Ideal) (rowExp m c b s) : EReal)
          * (T m c (ix1 j) : EReal) + (D m c (ix1 j) : EReal) := by
  rw [U5_v5, cast_y, U4_y]
  refine (Blocks.M.y_at (U3 m) c (row b s) j).trans ?_
  rw [mat_scales, mat_colscale, mat_bias, mat_weights]
  have h : (fun k => (Blocks.M.C (U3 m) c (ix2 (row b s) k) : EReal)) = fun k => (kerCode (F := Ideal) (X m c (ix3 b s k)) (rowExp m c b s) : EReal) :=
    funext fun k => mat_codes m c b s k
  rw [Finset.sum_congr rfl fun k _ => congrArg (· * (B m c (ix2 k j) : EReal)) (congrFun h k)]

end Cert.KernelIdeal.Value

end
-- ==== Proof.ReferenceIdealRead.lean ====
/- What the reference computes from its four arguments, entry by entry. -/
module

public import proofs.«01_k».proof.Proof.Gen.ReferenceIdeal.Skeleton
public import proofs.«01_k».proof.Proof.Scalar
public import Idealize.ShloMosaic.Lib.Pointwise

@[expose] public section

set_option maxRecDepth 16384

noncomputable section

namespace Cert.ReferenceIdeal.Read

open Cert.ReferenceIdeal Cert.ReferenceIdeal.Gen
open Idealize.ShloMosaic
open Idealize.ShloMosaic.Pointwise
open Cert.Scalar

section Any

variable {F : FTy → Type} [FloatOps F] [Named F]

/-- Each row's largest magnitude. -/
def amax (x : Vec F S4x384x27648 .bf16) : FVec F S4x384 .f32 :=
  multiReduction .maximumf [2] S4x384 (absf (k0_pay3 x)) 0xFF800000#32 reduces_S4x384x27648_S4x384 (.inl rfl) rfl

/-- The logarithm of two the reference divides by. -/
def logTwo : F .f32 := Named.named κ "log_two" (φ := .f32) 0x3F317218#32

/-- The exponents are `refExp` of the largest magnitudes. -/
theorem pay4_split (x : Vec F S4x384x27648 .bf16) (i : S4x384x1.Idx) :
    k0_pay4 x i = refExp logTwo (shapeCast S4x384x1 (amax x) shapeCasts_S4x384_S4x384x1 i) := rfl

/-- The column of largest magnitudes, at a token. -/
theorem amax_col (x : Vec F S4x384x27648 .bf16) (b : Fin 4) (s : Fin 384) :
    shapeCast S4x384x1 (amax x) shapeCasts_S4x384_S4x384x1 (ix3 b s 0) = amax x (ix2 b s) := by
  pointwise

/-- A row's exponent, from its largest magnitude. -/
theorem pay4_apply (x : Vec F S4x384x27648 .bf16) (b : Fin 4) (s : Fin 384) : k0_pay4 x (ix3 b s 0) = refExp logTwo (amax x (ix2 b s)) := by
  rw [pay4_split, amax_col]

/-- A row's scale, from its exponent. -/
theorem scales_apply (x : Vec F S4x384x27648 .bf16) (i : S4x384x1.Idx) : k0_pay5 x i = refPow (k0_pay4 x i) := rfl

/-- A code, from its element and any exponents. -/
theorem codes_split (x : Vec F S4x384x27648 .bf16) (e : FVec F S4x384x1 .f32) (b : Fin 4) (s : Fin 384) (j : Fin 27648) :
    k0_pay1 (k0_pay3 x) e (cmpf .ogt e (broadcast S4x384x1 (Scalar.ofBits .f32 0x42FE0000#32))) (broadcast S4x384x1 (Scalar.ofBits .f32 0xC2FC0000#32)) (ix3 b s j)
      = FloatOps.truncf .fp8e4m3 bitsLt_fp8e4m3_f32 (clip (FloatOps.mulf (FloatOps.extf .f32 bitsLt_bf16_f32 (x (ix3 b s j))) (refPow (e (ix3 b s 0))))) := by
  pointwise [k0_pay1, k0_pay3, refPow, clip]

/-- A code, from its element and its row's exponent. -/
theorem codes_apply (x : Vec F S4x384x27648 .bf16) (b : Fin 4) (s : Fin 384) (j : Fin 27648) :
    k0_pay1 (k0_pay3 x) (k0_pay6 x) (k0_pay7 x) (k0_pay8 (F := F)) (ix3 b s j) = refCode (x (ix3 b s j)) (k0_pay4 x (ix3 b s 0)) :=
  codes_split x (k0_pay6 x) b s j

end Any

/-- A row's largest magnitude, on extended reals. -/
theorem amax_apply (x : Vec Ideal S4x384x27648 .bf16) (b : Fin 4) (s : Fin 384) : amax x (ix2 b s) = rowMax fun k => (x (ix3 b s k) : EReal) := by
  pointwise [amax, k0_pay3, rowMax]

/-- The quotient of the logarithms divides by the logarithm of two. -/
theorem logTwo_eq : (logTwo : Ideal .f32) = ((Real.log 2 : ℝ) : EReal) := IdealRules.named_const.ideal_named_scalar _ _ _ _ rfl

/-- The product of the codes and the weights, times the row's scale and the column's, plus the column's bias. -/
theorem y_apply (v1 : FVec Ideal S4x384x27648 .f32) (v34 : FVec Ideal S4x384x1 .f32) (v36 : FVec Ideal S4x384x1 .f32) (v38 : IVec S4x384x1 1) (v39 : FVec Ideal S4x384x1 .f32)
    (w : Vec Ideal S27648x5120 .fp8e4m3) (p q : Vec Ideal S5120 .f32) (b : Fin 4) (s : Fin 384) (j : Fin 5120) :
    k0_pay2 v1 v34 v36 v38 v39 w p q (ix3 b s j)
      = (∑ k : Fin 27648, ((k0_pay1 v1 v36 v38 v39 (ix3 b s k) : EReal) * (w (ix2 k j) : EReal))) * (v34 (ix3 b s 0) : EReal) * (p (ix1 j) : EReal) + (q (ix1 j) : EReal) := by
  pointwise [k0_pay2]

end Cert.ReferenceIdeal.Read

end
-- ==== Proof.ReferenceIdealValue.lean ====
/- The reference's three results, entry by entry, on extended reals. Its one region has one grid point, so each window's block
   is its whole array. -/
module

public import proofs.«01_k».proof.Proof.Gen.ReferenceIdeal.Frame
public import proofs.«01_k».proof.Proof.ReferenceIdealRead
public import Idealize.ShloMosaic.Lib.Pipeline.Value

@[expose] public section

set_option maxRecDepth 16384

noncomputable section

namespace Cert.ReferenceIdeal.Value

open Cert.ReferenceIdeal Cert.ReferenceIdeal.Gen Cert.ReferenceIdeal.Read
open Idealize.ShloMosaic Idealize.ShloMosaic.TcCoe Idealize.SL.Sem
open Idealize.ShloMosaic.Pointwise
open Idealize.ShloMosaic.Pipeline (Dat)
open Cert.Scalar

variable (m : (ℓ : Loc nD τ sig) → Buf (Elt Ideal) ℓ) (ρ : Dev nD → PrngReg)

/-- The offsets of rank 1 are zero. -/
theorem off1 : (![0] : Fin 1 → Nat) = fun _ => 0 := by decide
/-- The offsets of rank 2 are zero. -/
theorem off2 : (![0, 0] : Fin 2 → Nat) = fun _ => 0 := by decide
/-- The offsets of rank 3 are zero. -/
theorem off3 : (![0, 0, 0] : Fin 3 → Nat) = fun _ => 0 := by decide

/-- The activations, the weights, the columns' scales and the bias. -/
abbrev X (c : Dev nD) : Vec Ideal S4x384x27648 .bf16 := m ((c.tc : Thread nD τ).loc main_arg0)
abbrev B (c : Dev nD) : Vec Ideal S27648x5120 .fp8e4m3 := m ((c.tc : Thread nD τ).loc main_arg1)
abbrev T (c : Dev nD) : Vec Ideal S5120 .f32 := m ((c.tc : Thread nD τ).loc main_arg2)
abbrev D (c : Dev nD) : Vec Ideal S5120 .f32 := m ((c.tc : Thread nD τ).loc main_arg3)

/-- The region's one point. -/
abbrev pt : Fin cfg0.N := ⟨0, by rw [show cfg0.N = 1 from N_0]; decide⟩

/-- Window 0's one block lies at the start of its array. -/
theorem index0 : ∀ a : Fin 3, win0_0.index pt a = 0 := by decide +kernel
/-- Window 1's one block lies at the start of its array. -/
theorem index1 : ∀ a : Fin 2, win0_1.index pt a = 0 := by decide +kernel
/-- Window 2's one block lies at the start of its array. -/
theorem index2 : ∀ a : Fin 1, win0_2.index pt a = 0 := by decide +kernel
/-- Window 3's one block lies at the start of its array. -/
theorem index3 : ∀ a : Fin 1, win0_3.index pt a = 0 := by decide +kernel
/-- Window 4's one block lies at the start of its array. -/
theorem index4 : ∀ a : Fin 3, win0_4.index pt a = 0 := by decide +kernel
/-- Window 5's one block lies at the start of its array. -/
theorem index5 : ∀ a : Fin 3, win0_5.index pt a = 0 := by decide +kernel
/-- Window 6's one block lies at the start of its array. -/
theorem index6 : ∀ a : Fin 3, win0_6.index pt a = 0 := by decide +kernel

/-- Window 0's one block is its whole array. -/
theorem emb0 (y : S4x384x27648.Idx) : ((cfg0.win 0).blk pt).view.emb y = y := by
  funext a; apply Fin.ext
  show win0_0.index pt a * S4x384x27648.size a + 1 * (y a).val = (y a).val
  rw [index0]; omega
/-- Window 1's one block is its whole array. -/
theorem emb1 (y : S27648x5120.Idx) : ((cfg0.win 1).blk pt).view.emb y = y := by
  funext a; apply Fin.ext
  show win0_1.index pt a * S27648x5120.size a + 1 * (y a).val = (y a).val
  rw [index1]; omega
/-- Window 2's one block is its whole array. -/
theorem emb2 (y : S5120.Idx) : ((cfg0.win 2).blk pt).view.emb y = y := by
  funext a; apply Fin.ext
  show win0_2.index pt a * S5120.size a + 1 * (y a).val = (y a).val
  rw [index2]; omega
/-- Window 3's one block is its whole array. -/
theorem emb3 (y : S5120.Idx) : ((cfg0.win 3).blk pt).view.emb y = y := by
  funext a; apply Fin.ext
  show win0_3.index pt a * S5120.size a + 1 * (y a).val = (y a).val
  rw [index3]; omega
/-- Window 4's one block is its whole array. -/
theorem emb4 (y : S4x384x5120.Idx) : ((cfg0.win 4).blk pt).view.emb y = y := by
  funext a; apply Fin.ext
  show win0_4.index pt a * S4x384x5120.size a + 1 * (y a).val = (y a).val
  rw [index4]; omega
/-- Window 5's one block is its whole array. -/
theorem emb5 (y : S4x384x27648.Idx) : ((cfg0.win 5).blk pt).view.emb y = y := by
  funext a; apply Fin.ext
  show win0_5.index pt a * S4x384x27648.size a + 1 * (y a).val = (y a).val
  rw [index5]; omega
/-- Window 6's one block is its whole array. -/
theorem emb6 (y : S4x384x1.Idx) : ((cfg0.win 6).blk pt).view.emb y = y := by
  funext a; apply Fin.ext
  show win0_6.index pt a * S4x384x1.size a + 1 * (y a).val = (y a).val
  rw [index6]; omega

/-- Each input window's block is its argument. -/
theorem iblk0 (c : Dev nD) : iblk m c 0 pt = X m c := by
  funext y; exact ((View.read_apply _ _).trans (cast_eq _ _)).trans (by rw [emb0])
/-- The block of the weights is the whole array. -/
theorem iblk1 (c : Dev nD) : iblk m c 1 pt = B m c := by
  funext y; exact ((View.read_apply _ _).trans (cast_eq _ _)).trans (by rw [emb1])
/-- The block of the columns' scales is the whole array. -/
theorem iblk2 (c : Dev nD) : iblk m c 2 pt = T m c := by
  funext y; exact ((View.read_apply _ _).trans (cast_eq _ _)).trans (by rw [emb2])
/-- The block of the bias is the whole array. -/
theorem iblk3 (c : Dev nD) : iblk m c 3 pt = D m c := by
  funext y; exact ((View.read_apply _ _).trans (cast_eq _ _)).trans (by rw [emb3])

/-- There is one point, so no two blocks overlap. -/
theorem one_point (w : Fin cfg0.W) : ∀ t t' : Fin cfg0.N, (cfg0.win w).flush t = true → (cfg0.win w).flush t' = true → t ≠ t' →
    Disjoint ((cfg0.win w).blk t).view.set ((cfg0.win w).blk t').view.set :=
  fun t t' _ _ hne => absurd (Fin.ext (by
    have h := lt_of_lt_of_eq t.isLt (show cfg0.N = 1 from N_0)
    have h' := lt_of_lt_of_eq t'.isLt (show cfg0.N = 1 from N_0)
    omega)) hne

/-- Each result array is what the body leaves in its window at that point. -/
theorem arr4 (c : Dev nD) (y : S4x384x5120.Idx) : (dats m 0 c).arrAt 4 cfg0.N y = out0_4 (X m c) (B m c) (T m c) (D m c) y := by
  have h := congrFun ((dats m 0 c).read_blk_arrAt_eq_flushed 4 (one_point 4) cfg0.N pt pt.isLt (flush0_4 pt)) y
  have e : (dats m 0 c).flushed 4 pt y = out0_4 (iblk m c 0 pt) (iblk m c 1 pt) (iblk m c 2 pt) (iblk m c 3 pt) y := by
    show ((dats m 0 c).after 4 pt) y = _
    rw [after0_4]
  rw [e, iblk0, iblk1, iblk2, iblk3] at h
  have h' := ((View.read_apply _ _).trans (cast_eq _ _)).symm.trans h
  rw [emb4] at h'
  exact h'
/-- The codes the call leaves. -/
theorem arr5 (c : Dev nD) (y : S4x384x27648.Idx) : (dats m 0 c).arrAt 5 cfg0.N y = out0_5 (X m c) (B m c) (T m c) (D m c) y := by
  have h := congrFun ((dats m 0 c).read_blk_arrAt_eq_flushed 5 (one_point 5) cfg0.N pt pt.isLt (flush0_5 pt)) y
  have e : (dats m 0 c).flushed 5 pt y = out0_5 (iblk m c 0 pt) (iblk m c 1 pt) (iblk m c 2 pt) (iblk m c 3 pt) y := by
    show ((dats m 0 c).after 5 pt) y = _
    rw [after0_5]
  rw [e, iblk0, iblk1, iblk2, iblk3] at h
  have h' := ((View.read_apply _ _).trans (cast_eq _ _)).symm.trans h
  rw [emb5] at h'
  exact h'
/-- The scales the call leaves. -/
theorem arr6 (c : Dev nD) (y : S4x384x1.Idx) : (dats m 0 c).arrAt 6 cfg0.N y = out0_6 (X m c) (B m c) (T m c) (D m c) y := by
  have h := congrFun ((dats m 0 c).read_blk_arrAt_eq_flushed 6 (one_point 6) cfg0.N pt pt.isLt (flush0_6 pt)) y
  have e : (dats m 0 c).flushed 6 pt y = out0_6 (iblk m c 0 pt) (iblk m c 1 pt) (iblk m c 2 pt) (iblk m c 3 pt) y := by
    show ((dats m 0 c).after 6 pt) y = _
    rw [after0_6]
  rw [e, iblk0, iblk1, iblk2, iblk3] at h
  have h' := ((View.read_apply _ _).trans (cast_eq _ _)).symm.trans h
  rw [emb6] at h'
  exact h'

/-- The reference's exponent of a row of activations. -/
def rowExp (c : Dev nD) (b : Fin 4) (s : Fin 384) : EReal := refExp (F := Ideal) logTwo (rowMax fun k => (X m c (ix3 b s k) : EReal))

/-- A token's exponent, from the activations. -/
theorem exp_apply (c : Dev nD) (b : Fin 4) (s : Fin 384) : (k0_pay4 (X m c) (ix3 b s 0) : EReal) = rowExp m c b s := by
  rw [pay4_apply, amax_apply]; rfl

/-- The codes. -/
theorem codes_at (c : Dev nD) (b : Fin 4) (s : Fin 384) (j : Fin 27648) :
    (dats m 0 c).arrAt 5 cfg0.N (ix3 b s j) = refCode (F := Ideal) (X m c (ix3 b s j)) (rowExp m c b s) := by
  rw [arr5]
  unfold out0_5 k0_pay9 k0_pay11 k0_pay12 k0_pay13 r0_0
  rw [View.canon_unit_zero off3, View.ld_unit_zero (S := S4x384x27648) off3, codes_apply, exp_apply]

/-- The scales. -/
theorem scales_at (c : Dev nD) (b : Fin 4) (s : Fin 384) :
    (dats m 0 c).arrAt 6 cfg0.N (ix3 b s 0) = refPow (F := Ideal) (rowExp m c b s) := by
  rw [arr6]
  unfold out0_6 k0_pay10 r0_0 r0_4
  rw [View.canon_unit_zero off3, View.ld_unit_zero (S := S4x384x27648) off3, scales_apply, exp_apply]

/-- The product. -/
theorem y_at (c : Dev nD) (b : Fin 4) (s : Fin 384) (j : Fin 5120) :
    ((dats m 0 c).arrAt 4 cfg0.N (ix3 b s j) : EReal)
      = (∑ k : Fin 27648, (refCode (F := Ideal) (X m c (ix3 b s k)) (rowExp m c b s) : EReal) * (B m c (ix2 k j) : EReal)) * (refPow (F := Ideal) (rowExp m c b s) : EReal)
          * (T m c (ix1 j) : EReal) + (D m c (ix1 j) : EReal) := by
  rw [arr4]
  unfold out0_4 k0_pay9 k0_pay10 k0_pay11 k0_pay12 k0_pay13 r0_0 r0_1 r0_2 r0_3
  rw [View.canon_unit_zero off3, View.ld_unit_zero (S := S4x384x27648) off3, View.ld_unit_zero (S := S27648x5120) off2, View.ld_unit_zero (S := S5120) off1,
    View.ld_unit_zero (S := S5120) off1, y_apply, scales_apply, exp_apply]
  simp only [codes_apply, exp_apply]

/-- The reference's run, its three results named and its arguments unchanged. -/
theorem run : θ_run defs (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).1 4, (h.1 c).1 5, (h.1 c).1 6, h.2 c⟩) (θ_run_and (run_main m ρ) (unchanged m ρ))

end Cert.ReferenceIdeal.Value

end
-- ==== Proof.lean ====
module

public import proofs.«01_k».proof.Defs
public import proofs.«01_k».proof.Proof.KernelRun
public import proofs.«01_k».proof.Proof.KernelIdealValue
public import proofs.«01_k».proof.Proof.ReferenceIdealValue
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Reference.Frame
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Idealize.ShloMosaic.Pointwise
open Cert.Scalar

section Equal

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The kernel's and the reference's scale of a token, and its codes, are equal when the activations are. -/
theorem row_eq (h : Cert.ReferenceIdeal.Value.X m' c = Cert.KernelIdeal.Value.X m c) (b : Fin 4) (s : Fin 384) :
    kerPow (F := Ideal) (Cert.KernelIdeal.Value.rowExp m c b s) = refPow (F := Ideal) (Cert.ReferenceIdeal.Value.rowExp m' c b s)
      ∧ ∀ x : EReal, kerCode (F := Ideal) x (Cert.KernelIdeal.Value.rowExp m c b s) = refCode (F := Ideal) x (Cert.ReferenceIdeal.Value.rowExp m' c b s) := by
  unfold Cert.KernelIdeal.Value.rowExp Cert.ReferenceIdeal.Value.rowExp
  rw [h]
  exact row_agree _ _ Cert.ReferenceIdeal.Read.logTwo_eq

/-- The products are equal. -/
theorem y_eq (h0 : Cert.ReferenceIdeal.Value.X m' c = Cert.KernelIdeal.Value.X m c) (h1 : Cert.ReferenceIdeal.Value.B m' c = Cert.KernelIdeal.Value.B m c)
    (h2 : Cert.ReferenceIdeal.Value.T m' c = Cert.KernelIdeal.Value.T m c) (h3 : Cert.ReferenceIdeal.Value.D m' c = Cert.KernelIdeal.Value.D m c)
    (b : Fin 4) (s : Fin 384) (j : Fin 5120) :
    ((Cert.ReferenceIdeal.Gen.dats m' 0 c).arrAt 4 Cert.ReferenceIdeal.cfg0.N (ix3 b s j) : EReal)
      = (Cert.KernelIdeal.Run.U5 m c Cert.KernelIdeal.main_v5 (ix3 b s j) : EReal) := by
  obtain ⟨hp, hc⟩ := row_eq m m' c h0 b s
  refine (Cert.ReferenceIdeal.Value.y_at m' c b s j).trans (Eq.trans ?_ (Cert.KernelIdeal.Value.y_at m c b s j).symm)
  rw [h0, h1, h2, h3, hp]
  have hs : (fun k => (kerCode (F := Ideal) (Cert.KernelIdeal.Value.X m c (ix3 b s k)) (Cert.KernelIdeal.Value.rowExp m c b s) : EReal))
      = fun k => (refCode (F := Ideal) (Cert.KernelIdeal.Value.X m c (ix3 b s k)) (Cert.ReferenceIdeal.Value.rowExp m' c b s) : EReal) := funext fun k => hc _
  rw [Finset.sum_congr rfl fun k _ => congrArg (· * (Cert.KernelIdeal.Value.B m c (ix2 k j) : EReal)) (congrFun hs k)]

/-- The codes are equal. -/
theorem codes_eq (h0 : Cert.ReferenceIdeal.Value.X m' c = Cert.KernelIdeal.Value.X m c) (b : Fin 4) (s : Fin 384) (j : Fin 27648) :
    ((Cert.ReferenceIdeal.Gen.dats m' 0 c).arrAt 5 Cert.ReferenceIdeal.cfg0.N (ix3 b s j) : EReal)
      = (Cert.KernelIdeal.Run.U5 m c Cert.KernelIdeal.main_v6 (ix3 b s j) : EReal) := by
  refine (Cert.ReferenceIdeal.Value.codes_at m' c b s j).trans (Eq.trans ?_ (Cert.KernelIdeal.Value.codes_at m c b s j).symm)
  rw [h0]
  exact ((row_eq m m' c h0 b s).2 _).symm

/-- The scales are equal. -/
theorem scales_eq (h0 : Cert.ReferenceIdeal.Value.X m' c = Cert.KernelIdeal.Value.X m c) (b : Fin 4) (s : Fin 384) :
    ((Cert.ReferenceIdeal.Gen.dats m' 0 c).arrAt 6 Cert.ReferenceIdeal.cfg0.N (ix3 b s 0) : EReal)
      = (Cert.KernelIdeal.Run.U5 m c Cert.KernelIdeal.main_v7 (ix3 b s 0) : EReal) :=
  (Cert.ReferenceIdeal.Value.scales_at m' c b s).trans <| (row_eq m m' c h0 b s).1.symm.trans (Cert.KernelIdeal.Value.scales_at m c b s).symm

end Equal

/-- The kernel's three results are the reference's, on extended reals. -/
theorem algebraic : Cert.algebraic_KernelIdeal_ReferenceIdeal := by
  intro m g m' g' _ hargs
  refine ⟨fun c => Cert.KernelIdeal.Run.U5 m c Cert.KernelIdeal.main_v5, fun c => Cert.KernelIdeal.Run.U5 m c Cert.KernelIdeal.main_v6,
    fun c => Cert.KernelIdeal.Run.U5 m c Cert.KernelIdeal.main_v7, ?_, ?_⟩
  · exact (θ_run _ _ _).mono (fun r h c => ⟨(h.1 c).2.1, (h.1 c).2.2.1, (h.1 c).2.2.2, (h.1 c).1⟩) (Cert.KernelIdeal.Run.run_post m g)
  · refine (θ_run _ _ _).mono (fun r h c => ?_) (Cert.ReferenceIdeal.Value.run m' g')
    obtain ⟨e4, e5, e6, ha⟩ := h c
    obtain ⟨h0, h1, h2, h3⟩ := hargs c
    refine ⟨e4.trans (funext fun i => ?_), e5.trans (funext fun i => ?_), e6.trans (funext fun i => ?_), ha⟩
    · obtain ⟨b, s, j, rfl⟩ : ∃ (b : Fin 4) (s : Fin 384) (j : Fin 5120), i = ix3 b s j := ⟨_, _, _, eq_ix3 i⟩
      exact y_eq m m' c h0 h1 h2 h3 b s j
    · obtain ⟨b, s, j, rfl⟩ : ∃ (b : Fin 4) (s : Fin 384) (j : Fin 27648), i = ix3 b s j := ⟨_, _, _, eq_ix3 i⟩
      exact codes_eq m m' c h0 b s j
    · obtain ⟨b, s, j, rfl⟩ : ∃ (b : Fin 4) (s : Fin 384) (j : Fin 1), i = ix3 b s j := ⟨_, _, _, eq_ix3 i⟩
      obtain rfl : j = 0 := Subsingleton.elim _ _
      exact scales_eq m m' c h0 b s

/-- The certificate: the four frames, the two preservations and the equality of the results. -/
theorem claim : Cert.Claim := ⟨Cert.Kernel.Gen.facts, Cert.KernelIdeal.Gen.facts, Cert.ReferenceIdeal.Gen.facts, Cert.Reference.Gen.facts,
  fun m ρ _ => Cert.Kernel.Run.frame m ρ, fun m ρ _ => Cert.KernelIdeal.Run.frame m ρ, fun m ρ _ => Cert.ReferenceIdeal.Gen.frame m ρ,
  fun m ρ _ => Cert.Reference.Gen.frame m ρ, trivial,
  IdealRules.named_const.statement _ _ _ _ _ rfl, algebraic⟩

end Cert.Proof

end
